-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S6144x200 : Shape := ⟨2, ![6144, 200]⟩
abbrev S12x256x200 : Shape := ⟨3, ![12, 256, 200]⟩
abbrev S4992x12 : Shape := ⟨2, ![4992, 12]⟩
abbrev S4992 : Shape := ⟨1, ![4992]⟩
abbrev S256 : Shape := ⟨1, ![256]⟩
abbrev S_ : Shape := ⟨0, ![]⟩

class Facts : Prop where
  bitsLt_bf16_f32 : FTy.bits .bf16 < FTy.bits .f32
  bcast_S_S6144x200 : S_.BroadcastsInDim S6144x200 (![] : Fin 0 → Fin S6144x200.rank)
  bcast_S_S12x256x200 : S_.BroadcastsInDim S12x256x200 (![] : Fin 0 → Fin S12x256x200.rank)

variable [Facts]

def fn {F : FTy → Type} [FloatOps F] (main_arg0 : FVec F S6144x200 .bf16) (main_arg1 : FVec F S12x256x200 .bf16) (main_arg2 : IVec S4992x12 8) (main_arg3 : IVec S4992 8) (main_arg4 : FVec F S256 .f32) : IVec S6144x200 1 × IVec S12x256x200 1 :=
  let main_v0 : FVec F S6144x200 .f32 := (extf .f32 · bitsLt_bf16_f32) main_arg0
  let main_v1 : FVec F S6144x200 .f32 := Host.absf main_v0
  let main_cst : FVec F S_ .f32 := constant S_ .f32 0x7F800000#32
  let main_v2 : FVec F S6144x200 .f32 := broadcastInDim S6144x200 ![] bcast_S_S6144x200 main_cst
  let main_v3 : IVec S6144x200 1 := cmpf .olt main_v1 main_v2
  let main_v4 : FVec F S12x256x200 .f32 := (extf .f32 · bitsLt_bf16_f32) main_arg1
  let main_v5 : FVec F S12x256x200 .f32 := Host.absf main_v4
  let main_cst_0 : FVec F S_ .f32 := constant S_ .f32 0x7F800000#32
  let main_v6 : FVec F S12x256x200 .f32 := broadcastInDim S12x256x200 ![] bcast_S_S12x256x200 main_cst_0
  let main_v7 : IVec S12x256x200 1 := cmpf .olt main_v5 main_v6
  (main_v3, main_v7)
-- ==== Kernel.lean ====
abbrev S6144x200 : Shape := ⟨2, ![6144, 200]⟩
abbrev S12x256x200 : Shape := ⟨3, ![12, 256, 200]⟩
abbrev S4992x12 : Shape := ⟨2, ![4992, 12]⟩
abbrev S4992 : Shape := ⟨1, ![4992]⟩
abbrev S256 : Shape := ⟨1, ![256]⟩
abbrev S200x6144 : Shape := ⟨2, ![200, 6144]⟩
abbrev S12x200x256 : Shape := ⟨3, ![12, 200, 256]⟩
abbrev S12x4992 : Shape := ⟨2, ![12, 4992]⟩
abbrev S39x128 : Shape := ⟨2, ![39, 128]⟩
abbrev S2x128 : Shape := ⟨2, ![2, 128]⟩
abbrev S6144x4992 : Shape := ⟨2, ![6144, 4992]⟩
abbrev S12x6144x256 : Shape := ⟨3, ![12, 6144, 256]⟩
abbrev S200x256 : Shape := ⟨2, ![200, 256]⟩
abbrev S256x4992 : Shape := ⟨2, ![256, 4992]⟩
abbrev S12x256x256 : Shape := ⟨3, ![12, 256, 256]⟩
abbrev S768x4992 : Shape := ⟨2, ![768, 4992]⟩
abbrev S1x4992 : Shape := ⟨2, ![1, 4992]⟩
abbrev S1x200x256 : Shape := ⟨3, ![1, 200, 256]⟩
abbrev S56x256 : Shape := ⟨2, ![56, 256]⟩
abbrev S256x256 : Shape := ⟨2, ![256, 256]⟩
abbrev S1x256x256 : Shape := ⟨3, ![1, 256, 256]⟩
abbrev S1x128 : Shape := ⟨2, ![1, 128]⟩
abbrev S39x128x1 : Shape := ⟨3, ![39, 128, 1]⟩
abbrev S1x256 : Shape := ⟨2, ![1, 256]⟩
abbrev S256x128 : Shape := ⟨2, ![256, 128]⟩
abbrev S256x1 : Shape := ⟨2, ![256, 1]⟩
abbrev S256x768 : Shape := ⟨2, ![256, 768]⟩
abbrev S6144x12x256 : Shape := ⟨3, ![6144, 12, 256]⟩

abbrev nBuf : Space → Nat
  | .hbm => 13
  | .vmem => 14
  | .smem => 0
  | _ => 0

abbrev bufTy : (tb : Table) → Fin (tcTables nBuf tb) → BufTy
  | .hbm, ⟨0, _⟩ => ⟨S6144x200, .bf16⟩
  | .hbm, ⟨1, _⟩ => ⟨S12x256x200, .bf16⟩
  | .hbm, ⟨2, _⟩ => ⟨S4992x12, .i8⟩
  | .hbm, ⟨3, _⟩ => ⟨S4992, .i8⟩
  | .hbm, ⟨4, _⟩ => ⟨S256, .f32⟩
  | .hbm, ⟨5, _⟩ => ⟨S200x6144, .bf16⟩
  | .hbm, ⟨6, _⟩ => ⟨S12x200x256, .bf16⟩
  | .hbm, ⟨7, _⟩ => ⟨S12x4992, .i8⟩
  | .hbm, ⟨8, _⟩ => ⟨S39x128, .i8⟩
  | .hbm, ⟨9, _⟩ => ⟨S2x128, .f32⟩
  | .hbm, ⟨10, _⟩ => ⟨S6144x4992, .f32⟩
  | .hbm, ⟨11, _⟩ => ⟨S12x6144x256, .f32⟩
  | .hbm, ⟨12, _⟩ => ⟨S6144x12x256, .f32⟩
  | .local _ .vmem, ⟨0, _⟩ => ⟨S200x256, .bf16⟩
  | .local _ .vmem, ⟨1, _⟩ => ⟨S200x256, .bf16⟩
  | .local _ .vmem, ⟨2, _⟩ => ⟨S12x200x256, .bf16⟩
  | .local _ .vmem, ⟨3, _⟩ => ⟨S12x4992, .i8⟩
  | .local _ .vmem, ⟨4, _⟩ => ⟨S39x128, .i8⟩
  | .local _ .vmem, ⟨5, _⟩ => ⟨S2x128, .f32⟩
  | .local _ .vmem, ⟨6, _⟩ => ⟨S256x4992, .f32⟩
  | .local _ .vmem, ⟨7, _⟩ => ⟨S256x4992, .f32⟩
  | .local _ .vmem, ⟨8, _⟩ => ⟨S12x256x256, .f32⟩
  | .local _ .vmem, ⟨9, _⟩ => ⟨S12x256x256, .f32⟩
  | .local _ .vmem, ⟨10, _⟩ => ⟨S12x256x256, .bf16⟩
  | .local _ .vmem, ⟨11, _⟩ => ⟨S768x4992, .bf16⟩
  | .local _ .vmem, ⟨12, _⟩ => ⟨S1x4992, .f32⟩
  | .local _ .vmem, ⟨13, _⟩ => ⟨S12x4992, .f32⟩
  | _, _ => ⟨S6144x200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_221 : BitVec 32 := 0#32
  let c19_i32 : BitVec 32 := 19#32
  let v375 : BitVec 32 := Scalar.addi c0_i32_221 c19_i32
  let c1_i32 : BitVec 32 := 1#32
  ⟨c0_i32_221, v375, c1_i32⟩
def k0_mult1 (k0_t1 : Fin k0_t1_loop.trips) : BitVec 32 :=
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  v563
def k0_off1 (k0_t1 : Fin k0_t1_loop.trips) : Fin 2 → Nat :=
  let c0_328 : Index := 0#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v566 : Index := Scalar.indexCast v564
  ![0, v566.toNat]
def k0_off2 (k0_t1 : Fin k0_t1_loop.trips) : Fin 2 → Nat :=
  let c1_335 : Index := 1#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v580 : Index := Scalar.indexCast v564
  ![1, v580.toNat]
def k0_off3 (k0_t1 : Fin k0_t1_loop.trips) : Fin 2 → Nat :=
  let c2_342 : Index := 2#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v594 : Index := Scalar.indexCast v564
  ![2, v594.toNat]
def k0_off4 (k0_t1 : Fin k0_t1_loop.trips) : Fin 2 → Nat :=
  let c3_349 : Index := 3#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v608 : Index := Scalar.indexCast v564
  ![3, v608.toNat]
def k0_off5 (k0_t1 : Fin k0_t1_loop.trips) : Fin 2 → Nat :=
  let c4_356 : Index := 4#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v622 : Index := Scalar.indexCast v564
  ![4, v622.toNat]
def k0_off6 (k0_t1 : Fin k0_t1_loop.trips) : Fin 2 → Nat :=
  let c5_363 : Index := 5#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v636 : Index := Scalar.indexCast v564
  ![5, v636.toNat]
def k0_off7 (k0_t1 : Fin k0_t1_loop.trips) : Fin 2 → Nat :=
  let c6_370 : Index := 6#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v650 : Index := Scalar.indexCast v564
  ![6, v650.toNat]
def k0_off8 (k0_t1 : Fin k0_t1_loop.trips) : Fin 2 → Nat :=
  let c7_377 : Index := 7#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v664 : Index := Scalar.indexCast v564
  ![7, v664.toNat]
def k0_off9 (k0_t1 : Fin k0_t1_loop.trips) : Fin 2 → Nat :=
  let c8_384 : Index := 8#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v678 : Index := Scalar.indexCast v564
  ![8, v678.toNat]
def k0_off10 (k0_t1 : Fin k0_t1_loop.trips) : Fin 2 → Nat :=
  let c9_391 : Index := 9#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v692 : Index := Scalar.indexCast v564
  ![9, v692.toNat]
def k0_off11 (k0_t1 : Fin k0_t1_loop.trips) : Fin 2 → Nat :=
  let c10_398 : Index := 10#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v706 : Index := Scalar.indexCast v564
  ![10, v706.toNat]
def k0_off12 (k0_t1 : Fin k0_t1_loop.trips) : Fin 2 → Nat :=
  let c11_405 : Index := 11#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v720 : Index := Scalar.indexCast v564
  ![11, v720.toNat]
def k0_off13 (k0_t1 : Fin k0_t1_loop.trips) : Fin 2 → Nat :=
  let c0_413 : Index := 0#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v737 : Index := Scalar.indexCast v564
  ![0, v737.toNat]
def k0_off14 (k0_t1 : Fin k0_t1_loop.trips) : Fin 2 → Nat :=
  let c256_414 : Index := 256#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v744 : Index := Scalar.indexCast v564
  ![256, v744.toNat]
def k0_off15 (k0_t1 : Fin k0_t1_loop.trips) : Fin 2 → Nat :=
  let c512_415 : Index := 512#32
  let c0_i32_221 : BitVec 32 := 0#32
  let c1_i32 : BitVec 32 := 1#32
  let arg12 : BitVec 32 := Scf.iv c0_i32_221 c1_i32 k0_t1
  let c256_i32 : BitVec 32 := 256#32
  let v563 : BitVec 32 := Scalar.muli arg12 c256_i32
  let v564 : BitVec 32 := v563
  let v751 : Index := Scalar.indexCast v564
  ![512, v751.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S200x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x200x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x4992 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S39x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4992 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S12x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6144x200 : Shape := ⟨2, ![6144, 200]⟩
abbrev S12x256x200 : Shape := ⟨3, ![12, 256, 200]⟩
abbrev S4992x12 : Shape := ⟨2, ![4992, 12]⟩
abbrev S4992 : Shape := ⟨1, ![4992]⟩
abbrev S256 : Shape := ⟨1, ![256]⟩
abbrev S6144x12x256 : Shape := ⟨3, ![6144, 12, 256]⟩
abbrev S_ : Shape := ⟨0, ![]⟩
abbrev S6144 : Shape := ⟨1, ![6144]⟩
abbrev S12 : Shape := ⟨1, ![12]⟩
abbrev S1x12 : Shape := ⟨2, ![1, 12]⟩
abbrev S6144x3072 : Shape := ⟨2, ![6144, 3072]⟩
abbrev S4992x12x1 : Shape := ⟨3, ![4992, 12, 1]⟩
abbrev S6144x4992x12 : Shape := ⟨3, ![6144, 4992, 12]⟩
abbrev S6144x4992 : Shape := ⟨2, ![6144, 4992]⟩
abbrev S4992x1 : Shape := ⟨2, ![4992, 1]⟩
abbrev S6144x1 : Shape := ⟨2, ![6144, 1]⟩
abbrev S1x4992 : Shape := ⟨2, ![1, 4992]⟩

abbrev nBuf : Space → Nat
  | .hbm => 49
  | .vmem => 0
  | .smem => 0
  | _ => 0

abbrev bufTy : (tb : Table) → Fin (tcTables nBuf tb) → BufTy
  | .hbm, ⟨0, _⟩ => ⟨S6144x200, .bf16⟩
  | .hbm, ⟨1, _⟩ => ⟨S12x256x200, .bf16⟩
  | .hbm, ⟨2, _⟩ => ⟨S4992x12, .i8⟩
  | .hbm, ⟨3, _⟩ => ⟨S4992, .i8⟩
  | .hbm, ⟨4, _⟩ => ⟨S256, .f32⟩
  | .hbm, ⟨5, _⟩ => ⟨S6144x12x256, .f32⟩
  | .hbm, ⟨6, _⟩ => ⟨S6144x200, .f32⟩
  | .hbm, ⟨7, _⟩ => ⟨S6144x200, .f32⟩
  | .hbm, ⟨8, _⟩ => ⟨S_, .f32⟩
  | .hbm, ⟨9, _⟩ => ⟨S6144, .f32⟩
  | .hbm, ⟨10, _⟩ => ⟨S4992x12, .i32⟩
  | .hbm, ⟨11, _⟩ => ⟨S12, .i32⟩
  | .hbm, ⟨12, _⟩ => ⟨S1x12, .i32⟩
  | .hbm, ⟨13, _⟩ => ⟨S_, .i32⟩
  | .hbm, ⟨14, _⟩ => ⟨S1x12, .i32⟩
  | .hbm, ⟨15, _⟩ => ⟨S1x12, .i32⟩
  | .hbm, ⟨16, _⟩ => ⟨S4992x12, .i32⟩
  | .hbm, ⟨17, _⟩ => ⟨S4992x12, .i32⟩
  | .hbm, ⟨18, _⟩ => ⟨S6144x3072, .f32⟩
  | .hbm, ⟨19, _⟩ => ⟨S_, .i32⟩
  | .hbm, ⟨20, _⟩ => ⟨S4992x12, .i32⟩
  | .hbm, ⟨21, _⟩ => ⟨S4992x12, .i1⟩
  | .hbm, ⟨22, _⟩ => ⟨S_, .i32⟩
  | .hbm, ⟨23, _⟩ => ⟨S4992x12, .i32⟩
  | .hbm, ⟨24, _⟩ => ⟨S4992x12, .i32⟩
  | .hbm, ⟨25, _⟩ => ⟨S4992x12, .i32⟩
  | .hbm, ⟨26, _⟩ => ⟨S4992x12x1, .i32⟩
  | .hbm, ⟨27, _⟩ => ⟨S6144x4992x12, .f32⟩
  | .hbm, ⟨28, _⟩ => ⟨S_, .f32⟩
  | .hbm, ⟨29, _⟩ => ⟨S6144x4992, .f32⟩
  | .hbm, ⟨30, _⟩ => ⟨S4992, .i32⟩
  | .hbm, ⟨31, _⟩ => ⟨S_, .i32⟩
  | .hbm, ⟨32, _⟩ => ⟨S4992, .i32⟩
  | .hbm, ⟨33, _⟩ => ⟨S4992, .i1⟩
  | .hbm, ⟨34, _⟩ => ⟨S_, .i32⟩
  | .hbm, ⟨35, _⟩ => ⟨S4992, .i32⟩
  | .hbm, ⟨36, _⟩ => ⟨S4992, .i32⟩
  | .hbm, ⟨37, _⟩ => ⟨S4992, .i32⟩
  | .hbm, ⟨38, _⟩ => ⟨S4992x1, .i32⟩
  | .hbm, ⟨39, _⟩ => ⟨S4992, .f32⟩
  | .hbm, ⟨40, _⟩ => ⟨S6144x1, .f32⟩
  | .hbm, ⟨41, _⟩ => ⟨S_, .f32⟩
  | .hbm, ⟨42, _⟩ => ⟨S6144x4992, .f32⟩
  | .hbm, ⟨43, _⟩ => ⟨S6144x4992, .f32⟩
  | .hbm, ⟨44, _⟩ => ⟨S6144x4992, .f32⟩
  | .hbm, ⟨45, _⟩ => ⟨S6144x4992, .f32⟩
  | .hbm, ⟨46, _⟩ => ⟨S1x4992, .f32⟩
  | .hbm, ⟨47, _⟩ => ⟨S6144x4992, .f32⟩
  | .hbm, ⟨48, _⟩ => ⟨S6144x4992, .f32⟩
  | _, _ => ⟨S6144x200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Proof.PrintedBase.lean ====
/-
  The kernel as printed, at any float instance: its branch condition, its staging memrefs and its scratch operands.
-/
module

public import proofs.«01_k».proof.Proof.Gen.Kernel.Frame

@[expose] public section

set_option maxRecDepth 16384

noncomputable section

namespace Cert.Kernel.Val

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-! ## The kernel body on any staging memrefs: a subtype the run finds -/

/-- Each window's current staging memref at point `t`, spelled as the pipeline passes it (`bodyAt0`), and its wholeness. -/
abbrev ms0_0 (t : Fin cfg0.N) : Memref sig .tc .vmem S200x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x200x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12x4992 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S39x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4992 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x256x256 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S12x256x256 .bf16 := Memref.whole cc0_scratch0
abbrev scM0_1 : Memref sig .tc .vmem S768x4992 .bf16 := Memref.whole cc0_scratch1
abbrev scM0_2 : Memref sig .tc .vmem S1x4992 .f32 := Memref.whole cc0_scratch2
abbrev scM0_3 : Memref sig .tc .vmem S12x4992 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Val

end
-- ==== Proof.PrintedRun.lean ====
/-
  One point of the grid, the kernel as printed, at any float instance: the body runs, whatever the scratch and the output buffers hold, and
  leaves the input blocks in place. Nothing is said of what it stores.
-/
module

public import proofs.«01_k».proof.Proof.PrintedBase
public import proofs.«01_k».proof.Proof.Gen.Kernel.Loops

@[expose] public section

set_option maxHeartbeats 4000000
set_option maxRecDepth 16384

noncomputable section

namespace Cert.Kernel.Val

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point. -/
theorem safeA (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S12x4992 .i8) (harg3 : arg3.IsWhole) (arg4 : Memref sig .tc .vmem S39x128 .i8) (harg4 : arg4.IsWhole) (arg5 : Memref sig .tc .vmem S2x128 .f32) (harg5 : arg5.IsWhole) (arg6 : Memref sig .tc .vmem S256x4992 .f32) (harg6 : arg6.IsWhole) (arg7 : Memref sig .tc .vmem S12x256x256 .f32) (harg7 : arg7.IsWhole) (arg8 : Memref sig .tc .vmem S12x256x256 .bf16) (harg8 : arg8.IsWhole) (arg9 : Memref sig .tc .vmem S768x4992 .bf16) (harg9 : arg9.IsWhole) (arg10 : Memref sig .tc .vmem S1x4992 .f32) (harg10 : arg10.IsWhole) (arg11 : Memref sig .tc .vmem S12x4992 .f32) (harg11 : arg11.IsWhole) (hc0 : cond0_0 i)
    (x0 : Vec F S200x256 .bf16) (x1 : Vec F S12x200x256 .bf16) (x2 : Vec F S12x4992 .i8) (x3 : Vec F S39x128 .i8) (x4 : Vec F S2x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_adc i arg1 harg1 arg2 harg2 arg3 harg3 arg4 harg4 arg5 harg5 arg6 harg6 arg7 harg7 arg8 harg8 arg9 harg9 arg10 harg10 arg11 harg11) K := by
    intro E K
    simp only [cc0_adc_eq_skeleton]; unfold cc0_adc_skel
    simp only [k0_part18_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; iexists _; isplitr; swap; · iexact H5
      ipureintro; rfl
    isplitl [H6]
    · iexists _; iexists _; isplitr; swap; · iexact H6
      ipureintro; rfl
    isplitl [HS0]
    · iexists _; iexists _; isplitr; swap; · iexact HS0
      ipureintro; rfl
    isplitl [HS1]
    · iexists _; iexists _; isplitr; swap; · iexact HS1
      ipureintro; rfl
    isplitl [HS2]
    · iexists _; iexists _; isplitr; swap; · iexact HS2
      ipureintro; rfl
    · iexists _; iexists _; isplitr; swap; · iexact HS3
      ipureintro; rfl

/-- A later point. -/
theorem safeB (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S12x4992 .i8) (harg3 : arg3.IsWhole) (arg4 : Memref sig .tc .vmem S39x128 .i8) (harg4 : arg4.IsWhole) (arg5 : Memref sig .tc .vmem S2x128 .f32) (harg5 : arg5.IsWhole) (arg6 : Memref sig .tc .vmem S256x4992 .f32) (harg6 : arg6.IsWhole) (arg7 : Memref sig .tc .vmem S12x256x256 .f32) (harg7 : arg7.IsWhole) (arg8 : Memref sig .tc .vmem S12x256x256 .bf16) (harg8 : arg8.IsWhole) (arg9 : Memref sig .tc .vmem S768x4992 .bf16) (harg9 : arg9.IsWhole) (arg10 : Memref sig .tc .vmem S1x4992 .f32) (harg10 : arg10.IsWhole) (arg11 : Memref sig .tc .vmem S12x4992 .f32) (harg11 : arg11.IsWhole) (hc0 : ¬cond0_0 i)
    (x0 : Vec F S200x256 .bf16) (x1 : Vec F S12x200x256 .bf16) (x2 : Vec F S12x4992 .i8) (x3 : Vec F S39x128 .i8) (x4 : Vec F S2x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_adc i arg1 harg1 arg2 harg2 arg3 harg3 arg4 harg4 arg5 harg5 arg6 harg6 arg7 harg7 arg8 harg8 arg9 harg9 arg10 harg10 arg11 harg11) K := by
    intro E K
    simp only [cc0_adc_eq_skeleton]; unfold cc0_adc_skel
    simp only [k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; iexists _; isplitr; swap; · iexact H5
      ipureintro; rfl
    isplitl [H6]
    · iexists _; iexists _; isplitr; swap; · iexact H6
      ipureintro; rfl
    isplitl [HS0]
    · iexists _; iexists _; isplitr; swap; · iexact HS0
      ipureintro; rfl
    isplitl [HS1]
    · iexists _; iexists _; isplitr; swap; · iexact HS1
      ipureintro; rfl
    isplitl [HS2]
    · iexists _; iexists _; isplitr; swap; · iexact HS2
      ipureintro; rfl
    · iexists _; iexists _; isplitr; swap; · iexact HS3
      ipureintro; rfl

end Cert.Kernel.Val
end
-- ==== Proof.Printed.lean ====
/-
  The frame of the kernel as printed, at any float instance: a run of which nothing is said of the two outputs.
-/
module

public import proofs.«01_k».proof.Proof.PrintedRun

@[expose] public section

set_option maxHeartbeats 4000000
set_option maxRecDepth 16384

noncomputable section

namespace Cert.Kernel.Val

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is said: the two outputs. -/
def unsaid : Fin cfg0.W → Bool := fun w => match w with
  | ⟨5, _⟩ => true
  | ⟨6, _⟩ => true
  | _ => false

/-- The proof data: the inputs' blocks stay in place, the outputs are unnamed, the scratch holds anything. -/
def safe (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed (cfg := cfg0) 5 t
    | ⟨6, _⟩ => Dat.unnamed (cfg := cfg0) 6 t
  Φ _ := Pipeline.ΦA spec0 c
  q _ := fullShare
  owed _ := 0

theorem safe_A (c : Dev nD) (w : Fin cfg0.W) : (safe m 0 c).A w = V m c (Pipeline.arrRef spec0 w) := by
  dsimp only [safe]

theorem safe_after_0 (c : Dev nD) (t : Fin cfg0.N) : (safe m 0 c).after 0 t = iblk m c 0 t := by dsimp only [safe]
theorem safe_after_1 (c : Dev nD) (t : Fin cfg0.N) : (safe m 0 c).after 1 t = iblk m c 1 t := by dsimp only [safe]
theorem safe_after_2 (c : Dev nD) (t : Fin cfg0.N) : (safe m 0 c).after 2 t = iblk m c 2 t := by dsimp only [safe]
theorem safe_after_3 (c : Dev nD) (t : Fin cfg0.N) : (safe m 0 c).after 3 t = iblk m c 3 t := by dsimp only [safe]
theorem safe_after_4 (c : Dev nD) (t : Fin cfg0.N) : (safe m 0 c).after 4 t = iblk m c 4 t := by dsimp only [safe]
theorem safe_before_0 (c : Dev nD) (t : Fin cfg0.N) (d) : (safe m 0 c).before 0 t d = iblk m c 0 t :=
  before0_0_of m (safe m 0 c) (safe_A m c 0) (safe_after_0 m c) t d
theorem safe_before_1 (c : Dev nD) (t : Fin cfg0.N) (d) : (safe m 0 c).before 1 t d = iblk m c 1 t :=
  before0_1_of m (safe m 0 c) (safe_A m c 1) (safe_after_1 m c) t d
theorem safe_before_2 (c : Dev nD) (t : Fin cfg0.N) (d) : (safe m 0 c).before 2 t d = iblk m c 2 t :=
  before0_2_of m (safe m 0 c) (safe_A m c 2) (safe_after_2 m c) t d
theorem safe_before_3 (c : Dev nD) (t : Fin cfg0.N) (d) : (safe m 0 c).before 3 t d = iblk m c 3 t :=
  before0_3_of m (safe m 0 c) (safe_A m c 3) (safe_after_3 m c) t d
theorem safe_before_4 (c : Dev nD) (t : Fin cfg0.N) (d) : (safe m 0 c).before 4 t d = iblk m c 4 t :=
  before0_4_of m (safe m 0 c) (safe_A m c 4) (safe_after_4 m c) t d

/-- What the body is called with at point `t`, -/
def safePre (c : Dev nD) (t : Fin cfg0.N) : sProp 𝕄 :=
  iprop((safe m 0 c).Φ t.castSucc ∗ (safe m 0 c).owesAt () t.castSucc
    ∗ (∃ d, owns (c : Thread nD τ) (ms0_0 t) fullShare ((safe m 0 c).before 0 t d))
    ∗ (∃ d, owns (c : Thread nD τ) (ms0_1 t) fullShare ((safe m 0 c).before 1 t d))
    ∗ (∃ d, owns (c : Thread nD τ) (ms0_2 t) fullShare ((safe m 0 c).before 2 t d))
    ∗ (∃ d, owns (c : Thread nD τ) (ms0_3 t) fullShare ((safe m 0 c).before 3 t d))
    ∗ (∃ d, owns (c : Thread nD τ) (ms0_4 t) fullShare ((safe m 0 c).before 4 t d))
    ∗ (∃ d, owns (c : Thread nD τ) (ms0_5 t) fullShare d)
    ∗ (∃ d, owns (c : Thread nD τ) (ms0_6 t) fullShare d))

/-- and what it returns. -/
def safePost (c : Dev nD) (t : Fin cfg0.N) : sProp 𝕄 :=
  iprop((safe m 0 c).Φ t.succ ∗ (safe m 0 c).owesAt () t.succ
    ∗ owns (c : Thread nD τ) (ms0_0 t) fullShare ((safe m 0 c).after 0 t)
    ∗ owns (c : Thread nD τ) (ms0_1 t) fullShare ((safe m 0 c).after 1 t)
    ∗ owns (c : Thread nD τ) (ms0_2 t) fullShare ((safe m 0 c).after 2 t)
    ∗ owns (c : Thread nD τ) (ms0_3 t) fullShare ((safe m 0 c).after 3 t)
    ∗ owns (c : Thread nD τ) (ms0_4 t) fullShare ((safe m 0 c).after 4 t)
    ∗ (∃ d, owns (c : Thread nD τ) (ms0_5 t) fullShare d)
    ∗ (∃ d, owns (c : Thread nD τ) (ms0_6 t) fullShare d))

set_option maxHeartbeats 1600000 in
/-- The body meets it at every point. -/
theorem safe_body (c : Dev nD) (t : Fin cfg0.N) :
    safePre m c t ⊢ wp frame (wpE (defs₀ (F := F)) Variants.none c none) Set.univ (bodyAt0 t) (fun _ => safePost m c t) := by
  unfold safePre safePost bodyAt0
  simp only [safe_before_0, safe_before_1, safe_before_2, safe_before_3, safe_before_4]
  rw [show (safe m 0 c).Φ t.succ = Pipeline.ΦA spec0 c from rfl, show (safe m 0 c).Φ t.castSucc = Pipeline.ΦA spec0 c from rfl, PhiA0_eq,
    show (safe m 0 c).owesAt () t.succ = (safe m 0 c).owesAt () t.castSucc from rfl,
    safe_after_0, safe_after_1, safe_after_2, safe_after_3, safe_after_4]
  iintro ⟨⟨⟨HS0, HS1, HS2, HS3⟩, Hg⟩, Ho, ⟨%d0, H0⟩, ⟨%d1, H1⟩, ⟨%d2, H2⟩, ⟨%d3, H3⟩, ⟨%d4, H4⟩, H5, H6⟩
  by_cases h0 : cond0_0 (grid0.coords t)
  · iapply ((safeA c (grid0.coords t) _ _ _ _ _ _ _ _ _ _ _ _ _ _ _ _ _ _ _ _ _ _ h0 (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iapply ((safeB c (grid0.coords t) _ _ _ _ _ _ _ _ _ _ _ _ _ _ _ _ _ _ _ _ _ _ h0 (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem safe_row (t : Fin cfg0.N) :
    defs₀ (F := F) .tc cfg0.body (cfg0.bodyArgs t (cfg0.slots t)) = bodyAt0 t := by
  unfold defs₀; rw [Defs.onTc_tc]

/-- The body obligation, at every point. -/
theorem safe_obligation (c : Dev nD) : Pipeline.BodyObligationLoose (safe m 0 c) (defs₀ (F := F)) Variants.none () Set.univ unsaid := fun t => by
  rw [bigSep_W0, bigSep_W0, safe_row]
  exact triple_restated (safe_body m c t) rfl .rfl fun _ => .rfl

/-- The host's last operation writes the transposed lookup tables only. -/
theorem tail_writes : ∀ ops ∈ ([hostOps1] : List (List (HloOp τ sig (Elt F)))), ∀ op ∈ ops, ∀ b : Ref sig .tc,
    Proc.devRef .tc b ∈ op.writes → b ∈ ({main_v6} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  by_contra hn
  simp only [StableHlo.unary_writes, Finset.mem_singleton] at hb hn
  exact StableHlo.devRef_ne_of_ne hn hb

set_option backward.isDefEq.respectTransparency.types false in
set_option maxHeartbeats 1600000 in
/-- Every fair execution ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_around_T_track_forget cfgs (safe m) (0 : Fin 1) launch0 defs₀ Variants.none unsaid {main_v6} m ρ main
    (hbody := safe_obligation m) (hshare := fun c => (safe m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := safe_A m) (hin := fun _ => .rfl) (hout := fun _ => .rfl)
    (Q' := fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
    (hQ' := fun r h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩)

end Cert.Kernel.Val
end
-- ==== Proof.Base.lean ====
/-
  The kernel's branch condition, its staging memrefs and its scratch operands, named for the hand-written runs.
-/
module

public import proofs.«01_k».proof.Proof.Gen.KernelIdeal.Frame

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-! ## The kernel body on any staging memrefs: a subtype the run finds -/

/-- Each window's current staging memref at point `t`, spelled as the pipeline passes it (`bodyAt0`), and its wholeness. -/
abbrev ms0_0 (t : Fin cfg0.N) : Memref sig .tc .vmem S200x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x200x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12x4992 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S39x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4992 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x256x256 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S12x256x256 .bf16 := Memref.whole cc0_scratch0
abbrev scM0_1 : Memref sig .tc .vmem S768x4992 .bf16 := Memref.whole cc0_scratch1
abbrev scM0_2 : Memref sig .tc .vmem S1x4992 .f32 := Memref.whole cc0_scratch2
abbrev scM0_3 : Memref sig .tc .vmem S12x4992 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Val

end
-- ==== Proof.Spec.lean ====
/-
  What the kernel's buffers hold, as functions of the launch operands, over the extended reals.
-/
module

public import proofs.«01_k».proof.Proof.Base
public import proofs.«01_k».proof.Proof.Gen.KernelIdeal.Loops
public import Idealize.ShloMosaic.Lib.Pointwise

@[expose] public section

set_option maxRecDepth 16384

noncomputable section

namespace Cert.KernelIdeal.Val

open Cert.KernelIdeal.Gen
open Idealize.ShloMosaic

/-- The number `k` as the kernel writes it: a 32-bit word read as a float. -/
abbrev num (k : ℕ) : EReal := FloatOps.sitofp (F := Ideal) .f32 (BitVec.ofNat 32 k)

/-- The codebooks, each padded from 200 to 256 rows with zero. -/
def cbOf (x1 : Vec Ideal S12x200x256 .bf16) : Vec Ideal S12x256x256 .bf16 :=
  fun j => if h : (j 1).val < 200 then x1 (ix3 (j 0) ⟨(j 1).val, h⟩ (j 2)) else (0 : EReal)

/-- The codes as floats. -/
def ctOf (x2 : Vec Ideal S12x4992 .i8) : Vec Ideal S12x4992 .f32 :=
  fun j => FloatOps.sitofp (F := Ideal) .f32 (BitVec.setWidth 32 (x2 j))

/-- One of the two rows of the table of norms, as a 1 × 128 block. -/
def tabRow (x4 : Vec Ideal S2x128 .f32) (a : Fin 2) : Vec Ideal S1x128 .f32 := fun j => x4 (ix2 a (j 1))

/-- The norms of the database vectors, looked up by their codes: lane `n` is entry `(n / 128, n % 128)` of the 39 × 128 lookup. -/
def xnOf (x3 : Vec Ideal S39x128 .i8) (x4 : Vec Ideal S2x128 .f32) : Vec Ideal S1x4992 .f32 :=
  fun j => k0_pay23 (F := Ideal) x3 (tabRow x4 0) (tabRow x4 1)
    (ix2 ⟨(j 1).val / 128, by have h : (j 1).val < 4992 := (j 1).isLt; omega⟩ ⟨(j 1).val % 128, Nat.mod_lt _ (by decide)⟩)

/-- Codebook `m`'s row `r` against the one-hot column of `n`'s code. -/
def term (CB : Vec Ideal S12x256x256 .bf16) (CT : Vec Ideal S12x4992 .f32) (m : Fin 12) (r : Fin 256) (n : Fin 4992) : EReal :=
  ∑ k : Fin 256, CB (ix3 m r k) * if CT (ix2 m n) = num k.val then 1 else 0

/-- `-2` times the decoded vector `n`, at row `r`. -/
def dec (CB : Vec Ideal S12x256x256 .bf16) (CT : Vec Ideal S12x4992 .f32) (r : Fin 256) (n : Fin 4992) : EReal :=
  Ideal.ofBits .f32 0xC0000000#32 * ∑ m : Fin 12, term CB CT m r n

/-- The three stacked limbs of the decoded vectors: the value, its rounding error, the rounding error of that. -/
def xtOf (CB : Vec Ideal S12x256x256 .bf16) (CT : Vec Ideal S12x4992 .f32) : Vec Ideal S768x4992 .bf16 :=
  fun j =>
    if h : (j 0).val < 256 then dec CB CT ⟨(j 0).val, h⟩ (j 1)
    else if h : (j 0).val - 256 < 256 then
      dec CB CT ⟨(j 0).val - 256, h⟩ (j 1) - dec CB CT ⟨(j 0).val - 256, h⟩ (j 1)
    else
      have h' : (j 0).val - 512 < 256 := by have h : (j 0).val < 768 := (j 0).isLt; omega
      (dec CB CT ⟨(j 0).val - 512, h'⟩ (j 1) - dec CB CT ⟨(j 0).val - 512, h'⟩ (j 1))
        - (dec CB CT ⟨(j 0).val - 512, h'⟩ (j 1) - dec CB CT ⟨(j 0).val - 512, h'⟩ (j 1))

/-- One block of lookup tables: entry `(m, b, k)` is the product of query `b` with codebook `m`'s entry `k`. -/
def lutOf (x0 : Vec Ideal S200x256 .bf16) (CB : Vec Ideal S12x256x256 .bf16) : Vec Ideal S12x256x256 .f32 :=
  fun j => ∑ k : Fin 256, k0_pay92 (F := Ideal) x0 (ix2 (j 1) k) * CB (ix3 (j 0) k (j 2))

/-- One block of distances. -/
def distOf (x0 : Vec Ideal S200x256 .bf16) (XT : Vec Ideal S768x4992 .bf16) (XN : Vec Ideal S1x4992 .f32) : Vec Ideal S256x4992 .f32 :=
  k0_pay2 (F := Ideal) (k0_pay92 x0) (k0_pay93 x0) XT XN

/-! ## The loop's payload at an index -/

/-- A sum of twelve terms, added from the left as the kernel adds them. -/
theorem sum12 (T : Fin 12 → EReal) :
    ∑ m, T m = T 0 + T 1 + T 2 + T 3 + T 4 + T 5 + T 6 + T 7 + T 8 + T 9 + T 10 + T 11 := by
  simp only [Fin.sum_univ_castSucc, Fin.sum_univ_zero, zero_add]; rfl

/-- The accumulated products of one 256-column block, times `-2`. -/
theorem acc256 (a : Fin 12 → Vec Ideal S1x256 .f32) (u : Fin 12 → Vec Ideal S1x256x256 .bf16) (r n : Fin 256) :
    k0_pay68 (F := Ideal) (k0_pay9 k0_pay67 (k0_pay7 k0_pay67 (k0_pay5 k0_pay67 (k0_pay3 k0_pay67 (a 0) (u 0) (a 1) (u 1))
      (k0_pay4 k0_pay67 (a 2)) (u 2) (a 3) (u 3) (a 4) (u 4)) (k0_pay6 k0_pay67 (a 5)) (Scalar.ofBits .f32 0x3F800000#32)
      (Scalar.ofBits .f32 0x00000000#32) (u 5) (a 6) (u 6) (a 7) (u 7)) (k0_pay8 (a 8)) (u 8) (a 9) (u 9) (a 10) (u 10)) (a 11) (u 11) (ix2 r n)
      = Ideal.ofBits .f32 0xC0000000#32 * ∑ m : Fin 12, ∑ k : Fin 256, u m (ix3 0 r k) * if a m (ix2 0 n) = num k.val then 1 else 0 := by
  rw [sum12]
  pointwise [k0_pay68, k0_pay9, k0_pay8, k0_pay7, k0_pay6, k0_pay5, k0_pay4, k0_pay3, k0_pay67]

/-- The three stored limbs of one 256-column block, in terms of the accumulated value. -/
theorem limbs256 (acc : FVec Ideal S256x256 .f32) (a : Vec Ideal S1x256 .f32) (u : Vec Ideal S1x256x256 .bf16) (r n : Fin 256) :
    k0_pay70 (F := Ideal) acc a u (ix2 r n) = k0_pay68 (F := Ideal) acc a u (ix2 r n)
    ∧ k0_pay73 (F := Ideal) acc a u (ix2 r n) = k0_pay68 (F := Ideal) acc a u (ix2 r n) - k0_pay68 (F := Ideal) acc a u (ix2 r n)
    ∧ k0_pay74 (F := Ideal) acc a u (ix2 r n)
        = (k0_pay68 (F := Ideal) acc a u (ix2 r n) - k0_pay68 (F := Ideal) acc a u (ix2 r n))
          - (k0_pay68 (F := Ideal) acc a u (ix2 r n) - k0_pay68 (F := Ideal) acc a u (ix2 r n)) := by
  refine ⟨?_, ?_, ?_⟩
  · pointwise [k0_pay70, k0_pay69]
  · pointwise [k0_pay73, k0_pay72, k0_pay71, k0_pay69]
  · pointwise [k0_pay74, k0_pay72, k0_pay71, k0_pay69]

/-- The accumulated products of the last 128 columns, times `-2`. -/
theorem acc128 (a : Fin 12 → Vec Ideal S1x128 .f32) (u : Fin 12 → Vec Ideal S1x256x256 .bf16) (r : Fin 256) (n : Fin 128) :
    k0_pay85 (F := Ideal) (k0_pay83 k0_pay67 (k0_pay82 k0_pay67 (k0_pay80 k0_pay67 (k0_pay78 k0_pay67 k0_pay75 (k0_pay76 (a 0)) (k0_pay77 (u 0))
        (constant S256x128 .f32 0x00000000#32) (a 1) (u 1) (a 2) (u 2))
      (k0_pay79 k0_pay67 (a 3)) (u 3) (a 4) (u 4) (a 5) (u 5)) (k0_pay81 k0_pay67 (a 6)) (u 6) (a 7) (u 7) (a 8) (u 8)) (a 9) (u 9) (a 10) (u 10))
      (k0_pay84 k0_pay67 (a 11)) (u 11) (ix2 r n)
      = Ideal.ofBits .f32 0xC0000000#32 * ∑ m : Fin 12, ∑ k : Fin 256, u m (ix3 0 r k) * if a m (ix2 0 n) = num k.val then 1 else 0 := by
  rw [sum12]
  pointwise [k0_pay85, k0_pay84, k0_pay83, k0_pay82, k0_pay81, k0_pay80, k0_pay79, k0_pay78, k0_pay77, k0_pay76, k0_pay75, k0_pay67]

/-- The three stored limbs of the last 128 columns, in terms of the accumulated value. -/
theorem limbs128 (acc : FVec Ideal S256x128 .f32) (a : FVec Ideal S256x128 .bf16) (u : Vec Ideal S1x256x256 .bf16) (r : Fin 256) (n : Fin 128) :
    k0_pay87 (F := Ideal) acc a u (ix2 r n) = k0_pay85 (F := Ideal) acc a u (ix2 r n)
    ∧ k0_pay90 (F := Ideal) acc a u (ix2 r n) = k0_pay85 (F := Ideal) acc a u (ix2 r n) - k0_pay85 (F := Ideal) acc a u (ix2 r n)
    ∧ k0_pay91 (F := Ideal) acc a u (ix2 r n)
        = (k0_pay85 (F := Ideal) acc a u (ix2 r n) - k0_pay85 (F := Ideal) acc a u (ix2 r n))
          - (k0_pay85 (F := Ideal) acc a u (ix2 r n) - k0_pay85 (F := Ideal) acc a u (ix2 r n)) := by
  refine ⟨?_, ?_, ?_⟩
  · pointwise [k0_pay87, k0_pay86]
  · pointwise [k0_pay90, k0_pay89, k0_pay88, k0_pay86]
  · pointwise [k0_pay91, k0_pay89, k0_pay88, k0_pay86]

end Cert.KernelIdeal.Val
end
-- ==== Proof.Blocks.lean ====
/-
  What the kernel's stores put into the scratch buffers and the outputs, block by block.
-/
module

public import proofs.«01_k».proof.Proof.Spec
public import Idealize.ShloMosaic.Lib.Pipeline.ReadBack
public import Idealize.ShloMosaic.Lib.Pipeline.ValueKit

@[expose] public section

set_option maxHeartbeats 4000000
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## A buffer loaded or stored whole -/

section Whole
variable {s : Shape} {e : EltTy} {v : View sig .tc .vmem s e} {X : v.ty.Contents (Elt Ideal)}

/-- A load of the whole buffer reads what it holds. -/
theorem whole_load {V : s.Idx → Elt Ideal e} (hX : v.read (Elt Ideal) X = V) {off : Fin s.rank → ℕ} {inb} (h : ∀ a, off a = 0) :
    v.readAt (Elt Ideal) (Rect.unit (s := s) off s.size inb).toLoadRect X = V := by
  subst hX
  exact View.ld_unit_lit (Val := Elt Ideal) (S := s) inb _ h

/-- A store of the whole buffer leaves what was stored. -/
theorem whole_store (w : s.Idx → Elt Ideal e) {off : Fin s.rank → ℕ} {inb} (h : ∀ a, off a = 0) :
    v.read (Elt Ideal) (v.writes (Elt Ideal) X [⟨Rect.unit (s := s) off s.size inb, w⟩]) = w := by
  obtain rfl : off = fun _ => 0 := funext h
  funext y
  refine View.read_writes_apply_of_pieces v X w _ (fun p hp x => ?_) y ⟨_, List.mem_singleton_self _, ?_⟩
  · obtain rfl := List.mem_singleton.mp hp
    exact congrArg w (Rect.emb_whole_apply s x).symm
  · exact (Rect.set_whole s).symm ▸ Finset.mem_univ y

end Whole

/-! ## Part of a buffer loaded -/

section Rows
variable {CT : Vec Ideal S12x4992 .f32}

/-- A load of part of row `m` of the codes. -/
theorem row_load {v : View sig .tc .vmem S12x4992 .f32} {X : v.ty.Contents (Elt Ideal)} (hX : v.read (Elt Ideal) X = CT)
    {W : ℕ} {off : Fin 2 → ℕ} {inb} (m : Fin 12) (o : ℕ) (h : off = ![m.val, o]) (n : Fin W) (i : Fin 4992) (hi : i.val = o + n.val) :
    v.readAt (Elt Ideal) (Rect.unit (s := S12x4992) off ![1, W] inb).toLoadRect X (ix2 0 n) = CT (ix2 m i) := by
  subst hX h
  exact View.ld_unit_apply_of (Val := Elt Ideal) (S := S12x4992) _ _ _ _ (ix2 0 n) (ix2 m i) fun a => by fin_cases a; exacts [rfl, hi]

/-- A load of codebook `m`. -/
theorem slab_load {R : ℕ} {CB : Vec Ideal ⟨3, ![12, R, 256]⟩ .bf16} {v : View sig .tc .vmem ⟨3, ![12, R, 256]⟩ .bf16} {X : v.ty.Contents (Elt Ideal)} (hX : v.read (Elt Ideal) X = CB)
    {off : Fin 3 → ℕ} {inb} (m : Fin 12) (h : off = ![m.val, 0, 0]) (r : Fin R) (k : Fin 256) :
    v.readAt (Elt Ideal) (Rect.unit (s := ⟨3, ![12, R, 256]⟩) off ![1, R, 256] inb).toLoadRect X (ix3 0 r k) = CB (ix3 m r k) := by
  subst hX h
  exact View.ld_unit_apply_of (Val := Elt Ideal) (S := ⟨3, ![12, R, 256]⟩) _ _ _ _ (ix3 0 r k) (ix3 m r k) fun a => by
    fin_cases a; exacts [rfl, (Nat.zero_add _).symm, (Nat.zero_add _).symm]

end Rows

/-! ## Blocks of a stack of twelve matrices -/

/-- Matrix `m` stored into a stack of twelve agrees with the stack when it does so entry by entry. -/
theorem slab_piece {e : EltTy} {G : S12x256x256.Idx → Elt Ideal e} {off : Fin 3 → ℕ} {inb} (P : S1x256x256.Idx → Elt Ideal e) (m : Fin 12) (h : off = ![m.val, 0, 0])
    (hP : ∀ r n : Fin 256, P (ix3 0 r n) = G (ix3 m r n))
    (x : (Rect.unit (s := S12x256x256) off S1x256x256.size inb).shape.Idx) :
    P x = G ((Rect.unit (s := S12x256x256) off S1x256x256.size inb).emb x) := by
  subst h
  have h0 : @Eq (Fin 1) (x 0) 0 := Subsingleton.elim (α := Fin 1) _ _
  refine (congrArg P ((eq_ix3 (n0 := 1) (n1 := 256) (n2 := 256) x).trans (congrArg (fun q : Fin 1 => ix3 (n1 := 256) (n2 := 256) q (x 1) (x 2)) h0))).trans ((hP (x 1) (x 2)).trans (congrArg G ?_))
  funext a
  refine Fin.ext ?_
  fin_cases a
  · refine Eq.trans ?_ (Rect.idx_unit_val (s := S12x256x256) _ _ inb x 0).symm
    exact (congrArg (fun q : Fin 1 => m.val + q.val) h0).symm
  · exact ((Rect.idx_unit_val (s := S12x256x256) _ _ inb x 1).trans (Nat.zero_add _)).symm
  · exact ((Rect.idx_unit_val (s := S12x256x256) _ _ inb x 2).trans (Nat.zero_add _)).symm

/-- A padded codebook, entry by entry. -/
theorem cb_pay (v : Vec Ideal S1x200x256 .bf16) (r n : Fin 256) :
    k0_pay10 (F := Ideal) v (ix3 0 r n) = if h : r.val < 200 then v (ix3 0 ⟨r.val, h⟩ n) else 0 := by
  pointwise [k0_pay10]

/-- A query block against a codebook, entry by entry. -/
theorem lut_pay (w : FVec Ideal S256x256 .bf16) (v : Vec Ideal S1x256x256 .bf16) (r n : Fin 256) :
    k0_pay98 (F := Ideal) w v (ix3 0 r n) = ∑ k : Fin 256, w (ix2 r k) * v (ix3 0 k n) := by
  pointwise [k0_pay98]

/-- The codebook loaded from place `m`, padded, is matrix `m` of the padded codebooks. -/
theorem cb_piece {x1 : Vec Ideal S12x200x256 .bf16} {v : View sig .tc .vmem S12x200x256 .bf16} {X : v.ty.Contents (Elt Ideal)}
    (hX : v.read (Elt Ideal) X = x1) (m : Fin 12) {off off' : Fin 3 → ℕ} {inb inb'} (h : off = ![m.val, 0, 0])
    (h' : off' = ![m.val, 0, 0]) (x : (Rect.unit (s := S12x256x256) off S1x256x256.size inb).shape.Idx) :
    k0_pay10 (F := Ideal) (v.readAt (Elt Ideal) (Rect.unit (s := S12x200x256) off' S1x200x256.size inb').toLoadRect X) x
      = cbOf x1 ((Rect.unit (s := S12x256x256) off S1x256x256.size inb).emb x) :=
  slab_piece (G := cbOf x1) _ m h (fun r n => (cb_pay _ r n).trans (dite_congr rfl (fun h => slab_load hX m h' ⟨r.val, h⟩ n) fun _ => rfl)) x

/-- A query block against the codebook loaded from place `m` is block `m` of the lookup tables. -/
theorem lut_piece {CB : Vec Ideal S12x256x256 .bf16} {v : View sig .tc .vmem S12x256x256 .bf16} {X : v.ty.Contents (Elt Ideal)}
    (hX : v.read (Elt Ideal) X = CB) (x0 : Vec Ideal S200x256 .bf16) (m : Fin 12) {off off' : Fin 3 → ℕ} {inb inb'} (h : off = ![m.val, 0, 0])
    (h' : off' = ![m.val, 0, 0]) (x : (Rect.unit (s := S12x256x256) off S1x256x256.size inb).shape.Idx) :
    k0_pay98 (F := Ideal) (k0_pay92 x0) (v.readAt (Elt Ideal) (Rect.unit (s := S12x256x256) off' S1x256x256.size inb').toLoadRect X) x
      = lutOf x0 CB ((Rect.unit (s := S12x256x256) off S1x256x256.size inb).emb x) :=
  slab_piece (G := lutOf x0 CB) _ m h (fun r n => (lut_pay _ _ r n).trans (Finset.sum_congr rfl fun k _ => congrArg (k0_pay92 (F := Ideal) x0 (ix2 r k) * ·)
    (slab_load hX m h' k n))) x

/-- The twelve stores of a block of lookup tables, last first. -/
def lutPieces (x0 : Vec Ideal S200x256 .bf16) (v : View sig .tc .vmem S12x256x256 .bf16) (X : v.ty.Contents (Elt Ideal)) :
    List (View.Piece (Elt Ideal) S12x256x256 .f32) :=
  [ ⟨Rect.unit (s := S12x256x256) ![11, 0, 0] S1x256x256.size inb_S12x256x256_S1x256x256_11_0_0,
      k0_pay98 (F := Ideal) (k0_pay92 x0) (View.readAt (Elt Ideal) v (Rect.unit (s := S12x256x256) ![11, 0, 0] S1x256x256.size inb_S12x256x256_S1x256x256_11_0_0).toLoadRect X)⟩,
    ⟨Rect.unit (s := S12x256x256) ![10, 0, 0] S1x256x256.size inb_S12x256x256_S1x256x256_10_0_0,
      k0_pay98 (F := Ideal) (k0_pay92 x0) (View.readAt (Elt Ideal) v (Rect.unit (s := S12x256x256) ![10, 0, 0] S1x256x256.size inb_S12x256x256_S1x256x256_10_0_0).toLoadRect X)⟩,
    ⟨Rect.unit (s := S12x256x256) ![9, 0, 0] S1x256x256.size inb_S12x256x256_S1x256x256_9_0_0,
      k0_pay98 (F := Ideal) (k0_pay92 x0) (View.readAt (Elt Ideal) v (Rect.unit (s := S12x256x256) ![9, 0, 0] S1x256x256.size inb_S12x256x256_S1x256x256_9_0_0).toLoadRect X)⟩,
    ⟨Rect.unit (s := S12x256x256) ![8, 0, 0] S1x256x256.size inb_S12x256x256_S1x256x256_8_0_0,
      k0_pay98 (F := Ideal) (k0_pay92 x0) (View.readAt (Elt Ideal) v (Rect.unit (s := S12x256x256) ![8, 0, 0] S1x256x256.size inb_S12x256x256_S1x256x256_8_0_0).toLoadRect X)⟩,
    ⟨Rect.unit (s := S12x256x256) ![7, 0, 0] S1x256x256.size inb_S12x256x256_S1x256x256_7_0_0,
      k0_pay98 (F := Ideal) (k0_pay92 x0) (View.readAt (Elt Ideal) v (Rect.unit (s := S12x256x256) ![7, 0, 0] S1x256x256.size inb_S12x256x256_S1x256x256_7_0_0).toLoadRect X)⟩,
    ⟨Rect.unit (s := S12x256x256) ![6, 0, 0] S1x256x256.size inb_S12x256x256_S1x256x256_6_0_0,
      k0_pay98 (F := Ideal) (k0_pay92 x0) (View.readAt (Elt Ideal) v (Rect.unit (s := S12x256x256) ![6, 0, 0] S1x256x256.size inb_S12x256x256_S1x256x256_6_0_0).toLoadRect X)⟩,
    ⟨Rect.unit (s := S12x256x256) ![5, 0, 0] S1x256x256.size inb_S12x256x256_S1x256x256_5_0_0,
      k0_pay98 (F := Ideal) (k0_pay92 x0) (View.readAt (Elt Ideal) v (Rect.unit (s := S12x256x256) ![5, 0, 0] S1x256x256.size inb_S12x256x256_S1x256x256_5_0_0).toLoadRect X)⟩,
    ⟨Rect.unit (s := S12x256x256) ![4, 0, 0] S1x256x256.size inb_S12x256x256_S1x256x256_4_0_0,
      k0_pay98 (F := Ideal) (k0_pay92 x0) (View.readAt (Elt Ideal) v (Rect.unit (s := S12x256x256) ![4, 0, 0] S1x256x256.size inb_S12x256x256_S1x256x256_4_0_0).toLoadRect X)⟩,
    ⟨Rect.unit (s := S12x256x256) ![3, 0, 0] S1x256x256.size inb_S12x256x256_S1x256x256_3_0_0,
      k0_pay98 (F := Ideal) (k0_pay92 x0) (View.readAt (Elt Ideal) v (Rect.unit (s := S12x256x256) ![3, 0, 0] S1x256x256.size inb_S12x256x256_S1x256x256_3_0_0).toLoadRect X)⟩,
    ⟨Rect.unit (s := S12x256x256) ![2, 0, 0] S1x256x256.size inb_S12x256x256_S1x256x256_2_0_0,
      k0_pay98 (F := Ideal) (k0_pay92 x0) (View.readAt (Elt Ideal) v (Rect.unit (s := S12x256x256) ![2, 0, 0] S1x256x256.size inb_S12x256x256_S1x256x256_2_0_0).toLoadRect X)⟩,
    ⟨Rect.unit (s := S12x256x256) ![1, 0, 0] S1x256x256.size inb_S12x256x256_S1x256x256_1_0_0,
      k0_pay98 (F := Ideal) (k0_pay92 x0) (View.readAt (Elt Ideal) v (Rect.unit (s := S12x256x256) ![1, 0, 0] S1x256x256.size inb_S12x256x256_S1x256x256_1_0_0).toLoadRect X)⟩,
    ⟨Rect.unit (s := S12x256x256) ![0, 0, 0] S1x256x256.size inb_S12x256x256_S1x256x256_0_0_0,
      k0_pay98 (F := Ideal) (k0_pay92 x0) (View.readAt (Elt Ideal) v (Rect.unit (s := S12x256x256) ![0, 0, 0] S1x256x256.size inb_S12x256x256_S1x256x256_0_0_0).toLoadRect X)⟩ ]

/-- They leave the block of lookup tables. -/
theorem lut_stored {CB : Vec Ideal S12x256x256 .bf16} {v : View sig .tc .vmem S12x256x256 .bf16} {X : v.ty.Contents (Elt Ideal)}
    (hX : v.read (Elt Ideal) X = CB) (x0 : Vec Ideal S200x256 .bf16) (w : View sig .tc .vmem S12x256x256 .f32) (f : w.ty.Contents (Elt Ideal)) :
    w.read (Elt Ideal) (w.writes (Elt Ideal) f (lutPieces x0 v X)) = lutOf x0 CB := by
  funext y
  refine View.read_writes_apply_of_pieces _ _ (lutOf x0 CB) _ (View.PiecesOf.mem ?_) y
    (View.cover_of_tiled (s := S12x256x256) _ S1x256x256.size (by rfl) y)
  exact ⟨lut_piece hX x0 11 (inb := inb_S12x256x256_S1x256x256_11_0_0) rfl rfl,
      lut_piece hX x0 10 (inb := inb_S12x256x256_S1x256x256_10_0_0) rfl rfl,
      lut_piece hX x0 9 (inb := inb_S12x256x256_S1x256x256_9_0_0) rfl rfl,
      lut_piece hX x0 8 (inb := inb_S12x256x256_S1x256x256_8_0_0) rfl rfl,
      lut_piece hX x0 7 (inb := inb_S12x256x256_S1x256x256_7_0_0) rfl rfl,
      lut_piece hX x0 6 (inb := inb_S12x256x256_S1x256x256_6_0_0) rfl rfl,
      lut_piece hX x0 5 (inb := inb_S12x256x256_S1x256x256_5_0_0) rfl rfl,
      lut_piece hX x0 4 (inb := inb_S12x256x256_S1x256x256_4_0_0) rfl rfl,
      lut_piece hX x0 3 (inb := inb_S12x256x256_S1x256x256_3_0_0) rfl rfl,
      lut_piece hX x0 2 (inb := inb_S12x256x256_S1x256x256_2_0_0) rfl rfl,
      lut_piece hX x0 1 (inb := inb_S12x256x256_S1x256x256_1_0_0) rfl rfl,
      lut_piece hX x0 0 (inb := inb_S12x256x256_S1x256x256_0_0_0) rfl rfl, trivial⟩

/-- The twelve stores of the padded codebooks, last first. -/
def cbPieces (v : View sig .tc .vmem S12x200x256 .bf16) (X : v.ty.Contents (Elt Ideal)) :
    List (View.Piece (Elt Ideal) S12x256x256 .bf16) :=
  [ ⟨Rect.unit (s := S12x256x256) ![11, 0, 0] S1x256x256.size inb_S12x256x256_S1x256x256_11_0_0,
      k0_pay10 (F := Ideal) (View.readAt (Elt Ideal) v (Rect.unit (s := S12x200x256) ![11, 0, 0] S1x200x256.size inb_S12x200x256_S1x200x256_11_0_0).toLoadRect X)⟩,
    ⟨Rect.unit (s := S12x256x256) ![10, 0, 0] S1x256x256.size inb_S12x256x256_S1x256x256_10_0_0,
      k0_pay10 (F := Ideal) (View.readAt (Elt Ideal) v (Rect.unit (s := S12x200x256) ![10, 0, 0] S1x200x256.size inb_S12x200x256_S1x200x256_10_0_0).toLoadRect X)⟩,
    ⟨Rect.unit (s := S12x256x256) ![9, 0, 0] S1x256x256.size inb_S12x256x256_S1x256x256_9_0_0,
      k0_pay10 (F := Ideal) (View.readAt (Elt Ideal) v (Rect.unit (s := S12x200x256) ![9, 0, 0] S1x200x256.size inb_S12x200x256_S1x200x256_9_0_0).toLoadRect X)⟩,
    ⟨Rect.unit (s := S12x256x256) ![8, 0, 0] S1x256x256.size inb_S12x256x256_S1x256x256_8_0_0,
      k0_pay10 (F := Ideal) (View.readAt (Elt Ideal) v (Rect.unit (s := S12x200x256) ![8, 0, 0] S1x200x256.size inb_S12x200x256_S1x200x256_8_0_0).toLoadRect X)⟩,
    ⟨Rect.unit (s := S12x256x256) ![7, 0, 0] S1x256x256.size inb_S12x256x256_S1x256x256_7_0_0,
      k0_pay10 (F := Ideal) (View.readAt (Elt Ideal) v (Rect.unit (s := S12x200x256) ![7, 0, 0] S1x200x256.size inb_S12x200x256_S1x200x256_7_0_0).toLoadRect X)⟩,
    ⟨Rect.unit (s := S12x256x256) ![6, 0, 0] S1x256x256.size inb_S12x256x256_S1x256x256_6_0_0,
      k0_pay10 (F := Ideal) (View.readAt (Elt Ideal) v (Rect.unit (s := S12x200x256) ![6, 0, 0] S1x200x256.size inb_S12x200x256_S1x200x256_6_0_0).toLoadRect X)⟩,
    ⟨Rect.unit (s := S12x256x256) ![5, 0, 0] S1x256x256.size inb_S12x256x256_S1x256x256_5_0_0,
      k0_pay10 (F := Ideal) (View.readAt (Elt Ideal) v (Rect.unit (s := S12x200x256) ![5, 0, 0] S1x200x256.size inb_S12x200x256_S1x200x256_5_0_0).toLoadRect X)⟩,
    ⟨Rect.unit (s := S12x256x256) ![4, 0, 0] S1x256x256.size inb_S12x256x256_S1x256x256_4_0_0,
      k0_pay10 (F := Ideal) (View.readAt (Elt Ideal) v (Rect.unit (s := S12x200x256) ![4, 0, 0] S1x200x256.size inb_S12x200x256_S1x200x256_4_0_0).toLoadRect X)⟩,
    ⟨Rect.unit (s := S12x256x256) ![3, 0, 0] S1x256x256.size inb_S12x256x256_S1x256x256_3_0_0,
      k0_pay10 (F := Ideal) (View.readAt (Elt Ideal) v (Rect.unit (s := S12x200x256) ![3, 0, 0] S1x200x256.size inb_S12x200x256_S1x200x256_3_0_0).toLoadRect X)⟩,
    ⟨Rect.unit (s := S12x256x256) ![2, 0, 0] S1x256x256.size inb_S12x256x256_S1x256x256_2_0_0,
      k0_pay10 (F := Ideal) (View.readAt (Elt Ideal) v (Rect.unit (s := S12x200x256) ![2, 0, 0] S1x200x256.size inb_S12x200x256_S1x200x256_2_0_0).toLoadRect X)⟩,
    ⟨Rect.unit (s := S12x256x256) ![1, 0, 0] S1x256x256.size inb_S12x256x256_S1x256x256_1_0_0,
      k0_pay10 (F := Ideal) (View.readAt (Elt Ideal) v (Rect.unit (s := S12x200x256) ![1, 0, 0] S1x200x256.size inb_S12x200x256_S1x200x256_1_0_0).toLoadRect X)⟩,
    ⟨Rect.unit (s := S12x256x256) ![0, 0, 0] S1x256x256.size inb_S12x256x256_S1x256x256_0_0_0,
      k0_pay10 (F := Ideal) (View.readAt (Elt Ideal) v (Rect.unit (s := S12x200x256) ![0, 0, 0] S1x200x256.size inb_S12x200x256_S1x200x256_0_0_0).toLoadRect X)⟩ ]

/-- They leave the padded codebooks. -/
theorem cb_stored {x1 : Vec Ideal S12x200x256 .bf16} {v : View sig .tc .vmem S12x200x256 .bf16} {X : v.ty.Contents (Elt Ideal)}
    (hX : v.read (Elt Ideal) X = x1) (w : View sig .tc .vmem S12x256x256 .bf16) (f : w.ty.Contents (Elt Ideal)) :
    w.read (Elt Ideal) (w.writes (Elt Ideal) f (cbPieces v X)) = cbOf x1 := by
  funext y
  refine View.read_writes_apply_of_pieces _ _ (cbOf x1) _ (View.PiecesOf.mem ?_) y
    (View.cover_of_tiled (s := S12x256x256) _ S1x256x256.size (by rfl) y)
  exact ⟨cb_piece hX 11 (inb := inb_S12x256x256_S1x256x256_11_0_0) rfl rfl,
      cb_piece hX 10 (inb := inb_S12x256x256_S1x256x256_10_0_0) rfl rfl,
      cb_piece hX 9 (inb := inb_S12x256x256_S1x256x256_9_0_0) rfl rfl,
      cb_piece hX 8 (inb := inb_S12x256x256_S1x256x256_8_0_0) rfl rfl,
      cb_piece hX 7 (inb := inb_S12x256x256_S1x256x256_7_0_0) rfl rfl,
      cb_piece hX 6 (inb := inb_S12x256x256_S1x256x256_6_0_0) rfl rfl,
      cb_piece hX 5 (inb := inb_S12x256x256_S1x256x256_5_0_0) rfl rfl,
      cb_piece hX 4 (inb := inb_S12x256x256_S1x256x256_4_0_0) rfl rfl,
      cb_piece hX 3 (inb := inb_S12x256x256_S1x256x256_3_0_0) rfl rfl,
      cb_piece hX 2 (inb := inb_S12x256x256_S1x256x256_2_0_0) rfl rfl,
      cb_piece hX 1 (inb := inb_S12x256x256_S1x256x256_1_0_0) rfl rfl,
      cb_piece hX 0 (inb := inb_S12x256x256_S1x256x256_0_0_0) rfl rfl, trivial⟩

/-! ## Rows of the table of norms -/

/-- A 128-lane block stored at lane `o` agrees with the looked-up norms when it is row `o / 128` of the lookup. -/
theorem norm_piece (x3 : Vec Ideal S39x128 .i8) (x4 : Vec Ideal S2x128 .f32) {off : Fin 2 → ℕ} {inb} (P : S1x128.Idx → Elt Ideal .f32) (o : ℕ)
    (h : off = ![0, o]) (ho : o / 128 < 39) (hd : o % 128 = 0)
    (hP : ∀ n : Fin 128, P (ix2 0 n) = k0_pay23 (F := Ideal) x3 (tabRow x4 0) (tabRow x4 1) (ix2 ⟨o / 128, ho⟩ n))
    (x : (Rect.unit (s := S1x4992) off S1x128.size inb).shape.Idx) :
    P x = xnOf x3 x4 ((Rect.unit (s := S1x4992) off S1x128.size inb).emb x) := by
  subst h
  have h0 : @Eq (Fin 1) (x 0) 0 := Subsingleton.elim (α := Fin 1) _ _
  refine (congrArg P ((eq_ix2 (n0 := 1) (n1 := 128) x).trans (congrArg (fun q : Fin 1 => ix2 (n1 := 128) q (x 1)) h0))).trans ((hP (x 1)).trans (congrArg (k0_pay23 (F := Ideal) x3 (tabRow x4 0) (tabRow x4 1)) ?_))
  have e : ((Rect.unit (s := S1x4992) ![0, o] S1x128.size inb).emb x 1).val = o + (x 1).val :=
    Rect.idx_unit_val (s := S1x4992) _ _ inb x 1
  have hl : (x 1).val < 128 := (x 1).isLt
  funext a
  refine Fin.ext ?_
  fin_cases a
  · show o / 128 = ((Rect.unit (s := S1x4992) ![0, o] S1x128.size inb).emb x 1).val / 128
    rw [e]; omega
  · show (x 1).val = ((Rect.unit (s := S1x4992) ![0, o] S1x128.size inb).emb x 1).val % 128
    rw [e]; omega

end Cert.KernelIdeal.Val
end
-- ==== Proof.Trip.lean ====
/-
  The loop that builds the stacked limbs of the decoded vectors: trip `k` stores three 256 × 256 blocks, the limbs of
  the decoded vectors `256 k … 256 k + 255`.
-/
module

public import proofs.«01_k».proof.Proof.Blocks
public import Idealize.ShloMosaic.Lib.Pipeline.ReadBack
public import Idealize.ShloMosaic.Lib.Pipeline.ValueKit

@[expose] public section

set_option maxHeartbeats 4000000
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Blocks of the stacked limbs -/

section Rows
variable {CB : Vec Ideal S12x256x256 .bf16} {CT : Vec Ideal S12x4992 .f32}

/-- Rows below 256 of the stacked limbs hold the values themselves. -/
theorem xtOf_0 (r : Fin 256) (n : Fin 4992) (i : Fin 768) (h : i.val = r.val) : xtOf CB CT (ix2 i n) = dec CB CT r n := by
  have hr := r.isLt
  exact (dif_pos (show i.val < 256 by omega)).trans (congrArg (fun q => dec CB CT q n) (Fin.ext h))

/-- Rows 256 … 511 hold the first differences. -/
theorem xtOf_1 (r : Fin 256) (n : Fin 4992) (i : Fin 768) (h : i.val = 256 + r.val) :
    xtOf CB CT (ix2 i n) = dec CB CT r n - dec CB CT r n := by
  have hr := r.isLt
  exact (dif_neg (show ¬ i.val < 256 by omega)).trans ((dif_pos (show i.val - 256 < 256 by omega)).trans
    (congrArg (fun q => dec CB CT q n - dec CB CT q n) (Fin.ext (show i.val - 256 = r.val by omega))))

/-- Rows 512 … 767 hold the second differences. -/
theorem xtOf_2 (r : Fin 256) (n : Fin 4992) (i : Fin 768) (h : i.val = 512 + r.val) :
    xtOf CB CT (ix2 i n) = (dec CB CT r n - dec CB CT r n) - (dec CB CT r n - dec CB CT r n) := by
  have hr := r.isLt
  exact (dif_neg (show ¬ i.val < 256 by omega)).trans ((dif_neg (show ¬ i.val - 256 < 256 by omega)).trans
    (congrArg (fun q => (dec CB CT q n - dec CB CT q n) - (dec CB CT q n - dec CB CT q n)) (Fin.ext (show i.val - 512 = r.val by omega))))

/-- A block stored at rows `b …` and columns `o …` agrees with a whole array when it does so entry by entry. -/
theorem block_piece {G : Vec Ideal S768x4992 .bf16} {W : ℕ} {off : Fin 2 → ℕ} {inb} (P : (⟨2, ![256, W]⟩ : Shape).Idx → Elt Ideal .bf16) (b o : ℕ) (h : off = ![b, o])
    (hb : b + 256 ≤ 768) (ho : o + W ≤ 4992)
    (hP : ∀ (r : Fin 256) (n : Fin W), P (ix2 r n) = G (ix2 ⟨b + r.val, by omega⟩ ⟨o + n.val, by omega⟩))
    (x : (Rect.unit (s := S768x4992) off ![256, W] inb).shape.Idx) :
    P x = G ((Rect.unit (s := S768x4992) off ![256, W] inb).emb x) := by
  subst h
  refine (congrArg P (eq_ix2 (n0 := 256) (n1 := W) x)).trans ((hP (x 0) (x 1)).trans (congrArg G ?_))
  funext a
  refine Fin.ext ?_
  fin_cases a
  · exact (Rect.idx_unit_val (s := S768x4992) _ _ inb x 0).symm
  · exact (Rect.idx_unit_val (s := S768x4992) _ _ inb x 1).symm

/-- The accumulated products are the decoded vector, once the loads are read. -/
theorem acc_dec {W : ℕ} (a : Fin 12 → Vec Ideal ⟨2, ![1, W]⟩ .f32) (u : Fin 12 → Vec Ideal S1x256x256 .bf16) (r : Fin 256) (n : Fin W) (i : Fin 4992)
    (ha : ∀ m, a m (ix2 0 n) = CT (ix2 m i)) (hu : ∀ m k, u m (ix3 0 r k) = CB (ix3 m r k)) :
    Ideal.ofBits .f32 0xC0000000#32 * ∑ m : Fin 12, ∑ k : Fin 256, u m (ix3 0 r k) * (if a m (ix2 0 n) = num k.val then 1 else 0)
      = dec CB CT r i := by
  simp only [dec, term, ha, hu]

end Rows

/-- The twelve codebooks as a block of the kernel loads them. -/
def slabs (v : View sig .tc .vmem S12x256x256 .bf16) (X : v.ty.Contents (Elt Ideal)) : Fin 12 → Vec Ideal S1x256x256 .bf16 :=
  ![View.readAt (Elt Ideal) v (Rect.unit (s := S12x256x256) ![0, 0, 0] S1x256x256.size inb_S12x256x256_S1x256x256_0_0_0).toLoadRect X,
    View.readAt (Elt Ideal) v (Rect.unit (s := S12x256x256) ![1, 0, 0] S1x256x256.size inb_S12x256x256_S1x256x256_1_0_0).toLoadRect X,
    View.readAt (Elt Ideal) v (Rect.unit (s := S12x256x256) ![2, 0, 0] S1x256x256.size inb_S12x256x256_S1x256x256_2_0_0).toLoadRect X,
    View.readAt (Elt Ideal) v (Rect.unit (s := S12x256x256) ![3, 0, 0] S1x256x256.size inb_S12x256x256_S1x256x256_3_0_0).toLoadRect X,
    View.readAt (Elt Ideal) v (Rect.unit (s := S12x256x256) ![4, 0, 0] S1x256x256.size inb_S12x256x256_S1x256x256_4_0_0).toLoadRect X,
    View.readAt (Elt Ideal) v (Rect.unit (s := S12x256x256) ![5, 0, 0] S1x256x256.size inb_S12x256x256_S1x256x256_5_0_0).toLoadRect X,
    View.readAt (Elt Ideal) v (Rect.unit (s := S12x256x256) ![6, 0, 0] S1x256x256.size inb_S12x256x256_S1x256x256_6_0_0).toLoadRect X,
    View.readAt (Elt Ideal) v (Rect.unit (s := S12x256x256) ![7, 0, 0] S1x256x256.size inb_S12x256x256_S1x256x256_7_0_0).toLoadRect X,
    View.readAt (Elt Ideal) v (Rect.unit (s := S12x256x256) ![8, 0, 0] S1x256x256.size inb_S12x256x256_S1x256x256_8_0_0).toLoadRect X,
    View.readAt (Elt Ideal) v (Rect.unit (s := S12x256x256) ![9, 0, 0] S1x256x256.size inb_S12x256x256_S1x256x256_9_0_0).toLoadRect X,
    View.readAt (Elt Ideal) v (Rect.unit (s := S12x256x256) ![10, 0, 0] S1x256x256.size inb_S12x256x256_S1x256x256_10_0_0).toLoadRect X,
    View.readAt (Elt Ideal) v (Rect.unit (s := S12x256x256) ![11, 0, 0] S1x256x256.size inb_S12x256x256_S1x256x256_11_0_0).toLoadRect X]

theorem slabs_apply {CB : Vec Ideal S12x256x256 .bf16} {v : View sig .tc .vmem S12x256x256 .bf16} {X : v.ty.Contents (Elt Ideal)}
    (hX : v.read (Elt Ideal) X = CB) (m : Fin 12) (r k : Fin 256) : slabs v X m (ix3 0 r k) = CB (ix3 m r k) := by
  fin_cases m
  · exact slab_load hX 0 rfl r k
  · exact slab_load hX 1 rfl r k
  · exact slab_load hX 2 rfl r k
  · exact slab_load hX 3 rfl r k
  · exact slab_load hX 4 rfl r k
  · exact slab_load hX 5 rfl r k
  · exact slab_load hX 6 rfl r k
  · exact slab_load hX 7 rfl r k
  · exact slab_load hX 8 rfl r k
  · exact slab_load hX 9 rfl r k
  · exact slab_load hX 10 rfl r k
  · exact slab_load hX 11 rfl r k

/-- The twelve rows of codes as trip `k` loads them. -/
def rows (i : grid0.Coords) (h1 : k0_cond1 i = 1#1) (v : View sig .tc .vmem S12x4992 .f32) (X : v.ty.Contents (Elt Ideal)) (k : Fin k0_t1_loop.trips) : Fin 12 → Vec Ideal S1x256 .f32 :=
  ![View.readAt (Elt Ideal) v (Rect.unit (s := S12x4992) (k0_off1 k) S1x256.size (k0_off1_inb i k h1)).toLoadRect X,
    View.readAt (Elt Ideal) v (Rect.unit (s := S12x4992) (k0_off2 k) S1x256.size (k0_off2_inb i k h1)).toLoadRect X,
    View.readAt (Elt Ideal) v (Rect.unit (s := S12x4992) (k0_off3 k) S1x256.size (k0_off3_inb i k h1)).toLoadRect X,
    View.readAt (Elt Ideal) v (Rect.unit (s := S12x4992) (k0_off4 k) S1x256.size (k0_off4_inb i k h1)).toLoadRect X,
    View.readAt (Elt Ideal) v (Rect.unit (s := S12x4992) (k0_off5 k) S1x256.size (k0_off5_inb i k h1)).toLoadRect X,
    View.readAt (Elt Ideal) v (Rect.unit (s := S12x4992) (k0_off6 k) S1x256.size (k0_off6_inb i k h1)).toLoadRect X,
    View.readAt (Elt Ideal) v (Rect.unit (s := S12x4992) (k0_off7 k) S1x256.size (k0_off7_inb i k h1)).toLoadRect X,
    View.readAt (Elt Ideal) v (Rect.unit (s := S12x4992) (k0_off8 k) S1x256.size (k0_off8_inb i k h1)).toLoadRect X,
    View.readAt (Elt Ideal) v (Rect.unit (s := S12x4992) (k0_off9 k) S1x256.size (k0_off9_inb i k h1)).toLoadRect X,
    View.readAt (Elt Ideal) v (Rect.unit (s := S12x4992) (k0_off10 k) S1x256.size (k0_off10_inb i k h1)).toLoadRect X,
    View.readAt (Elt Ideal) v (Rect.unit (s := S12x4992) (k0_off11 k) S1x256.size (k0_off11_inb i k h1)).toLoadRect X,
    View.readAt (Elt Ideal) v (Rect.unit (s := S12x4992) (k0_off12 k) S1x256.size (k0_off12_inb i k h1)).toLoadRect X]

theorem rows_apply {CT : Vec Ideal S12x4992 .f32} {v : View sig .tc .vmem S12x4992 .f32} {X : v.ty.Contents (Elt Ideal)} (hX : v.read (Elt Ideal) X = CT)
    (i : grid0.Coords) (h1 : k0_cond1 i = 1#1) (k : Fin k0_t1_loop.trips) (m : Fin 12) (n : Fin 256) (j : Fin 4992) (hj : j.val = 256 * k.val + n.val) :
    rows i h1 v X k m (ix2 0 n) = CT (ix2 m j) := by
  fin_cases m
  · exact row_load hX 0 _ (k0_off1_eq k) n j hj
  · exact row_load hX 1 _ (k0_off2_eq k) n j hj
  · exact row_load hX 2 _ (k0_off3_eq k) n j hj
  · exact row_load hX 3 _ (k0_off4_eq k) n j hj
  · exact row_load hX 4 _ (k0_off5_eq k) n j hj
  · exact row_load hX 5 _ (k0_off6_eq k) n j hj
  · exact row_load hX 6 _ (k0_off7_eq k) n j hj
  · exact row_load hX 7 _ (k0_off8_eq k) n j hj
  · exact row_load hX 8 _ (k0_off9_eq k) n j hj
  · exact row_load hX 9 _ (k0_off10_eq k) n j hj
  · exact row_load hX 10 _ (k0_off11_eq k) n j hj
  · exact row_load hX 11 _ (k0_off12_eq k) n j hj

/-! ## One trip -/

/-- Trip `k` stores three blocks of the stacked limbs. -/
theorem trip_pieces (𝒱 : Variants) (c : Dev nD) (bd : Option 𝒱.V) (i : grid0.Coords) (arg1 : Memref sig .tc .vmem S200x256 .bf16) (harg1 : arg1.IsWhole) (arg2 : Memref sig .tc .vmem S12x200x256 .bf16) (harg2 : arg2.IsWhole) (arg3 : Memref sig .tc .vmem S12x4992 .i8) (harg3 : arg3.IsWhole) (arg4 : Memref sig .tc .vmem S39x128 .i8) (harg4 : arg4.IsWhole) (arg5 : Memref sig .tc .vmem S2x128 .f32) (harg5 : arg5.IsWhole) (arg6 : Memref sig .tc .vmem S256x4992 .f32) (harg6 : arg6.IsWhole) (arg7 : Memref sig .tc .vmem S12x256x256 .f32) (harg7 : arg7.IsWhole) (arg8 : Memref sig .tc .vmem S12x256x256 .bf16) (harg8 : arg8.IsWhole) (arg9 : Memref sig .tc .vmem S768x4992 .bf16) (harg9 : arg9.IsWhole) (arg10 : Memref sig .tc .vmem S1x4992 .f32) (harg10 : arg10.IsWhole) (arg11 : Memref sig .tc .vmem S12x4992 .f32) (harg11 : arg11.IsWhole) (k0_h1 : k0_cond1 i = 1#1) (v215 : FVec Ideal S39x128 .f32) (v355 : FVec Ideal S1x128 .f32) (X_arg8 : BufTy.Contents (Elt Ideal) arg8.view.ty) (X_arg11 : BufTy.Contents (Elt Ideal) arg11.view.ty) (k : Fin k0_t1_loop.trips) (CB : Vec Ideal S12x256x256 .bf16) (CT : Vec Ideal S12x4992 .f32)
    (hCB : arg8.view.read (Elt Ideal) X_arg8 = CB) (hCT : arg11.view.read (Elt Ideal) X_arg11 = CT) :
    View.PiecesOf (xtOf CB CT) (tripL_k0_t1 (F := Ideal) 𝒱 c bd i arg1 harg1 arg2 harg2 arg3 harg3 arg4 harg4 arg5 harg5 arg6 harg6 arg7 harg7 arg8 harg8 arg9 harg9 arg10 harg10 arg11 harg11 k0_h1 v215 v355 X_arg8 X_arg11 k) := by
  have hk : k.val < 19 := Nat.lt_of_lt_of_le k.isLt k0_t1_abs.2.1
  unfold tripL_k0_t1 trip_k0_t1
  sl_unfold_words
  refine ⟨?_, ?_, ?_, trivial⟩
  · intro x
    refine block_piece (W := 256) (inb := k0_off15_inb i k k0_h1) _ 512 (256 * k.val) (k0_off15_eq k) (by omega) (by omega) (fun r n => ?_) x
    refine (limbs256 _ _ _ r n).2.2.trans ?_
    have e := acc256 (rows i k0_h1 arg11.view X_arg11 k) (slabs arg8.view X_arg8) r n
    refine (congrArg₂ _ (congrArg₂ _ e e) (congrArg₂ _ e e)).trans ?_
    rw [acc_dec _ _ r n ⟨256 * k.val + n.val, by have := n.isLt; omega⟩ (rows_apply hCT i k0_h1 k · n _ rfl) (slabs_apply hCB · r ·)]
    exact (xtOf_2 _ _ _ rfl).symm
  · intro x
    refine block_piece (W := 256) (inb := k0_off14_inb i k k0_h1) _ 256 (256 * k.val) (k0_off14_eq k) (by omega) (by omega) (fun r n => ?_) x
    refine (limbs256 _ _ _ r n).2.1.trans ?_
    have e := acc256 (rows i k0_h1 arg11.view X_arg11 k) (slabs arg8.view X_arg8) r n
    refine (congrArg₂ _ e e).trans ?_
    rw [acc_dec _ _ r n ⟨256 * k.val + n.val, by have := n.isLt; omega⟩ (rows_apply hCT i k0_h1 k · n _ rfl) (slabs_apply hCB · r ·)]
    exact (xtOf_1 _ _ _ rfl).symm
  · intro x
    refine block_piece (W := 256) (inb := k0_off13_inb i k k0_h1) _ 0 (256 * k.val) (k0_off13_eq k) (by omega) (by omega) (fun r n => ?_) x
    refine (limbs256 _ _ _ r n).1.trans ?_
    refine (acc256 (rows i k0_h1 arg11.view X_arg11 k) (slabs arg8.view X_arg8) r n).trans ?_
    exact (acc_dec _ _ r n _ (rows_apply hCT i k0_h1 k · n _ rfl) (slabs_apply hCB · r ·)).trans (xtOf_0 _ _ _ (Nat.zero_add _)).symm

end Cert.KernelIdeal.Val
end
-- ==== Proof.Loop.lean ====
/-
  The stacked limbs of the decoded vectors after the loop and the 128 columns the loop leaves over.
-/
module

public import proofs.«01_k».proof.Proof.Trip
public import Idealize.ShloMosaic.Lib.Pipeline.ReadBack
public import Idealize.ShloMosaic.Lib.Pipeline.ValueKit

@[expose] public section

set_option maxHeartbeats 4000000
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000

/-! ## The last 128 columns -/

/-- The twelve rows of codes for the last 128 columns. -/
def rowsT (v : View sig .tc .vmem S12x4992 .f32) (X : v.ty.Contents (Elt Ideal)) : Fin 12 → Vec Ideal S1x128 .f32 :=
  ![View.readAt (Elt Ideal) v (Rect.unit (s := S12x4992) ![0, 4864] S1x128.size inb_S12x4992_S1x128_0_4864).toLoadRect X,
    View.readAt (Elt Ideal) v (Rect.unit (s := S12x4992) ![1, 4864] S1x128.size inb_S12x4992_S1x128_1_4864).toLoadRect X,
    View.readAt (Elt Ideal) v (Rect.unit (s := S12x4992) ![2, 4864] S1x128.size inb_S12x4992_S1x128_2_4864).toLoadRect X,
    View.readAt (Elt Ideal) v (Rect.unit (s := S12x4992) ![3, 4864] S1x128.size inb_S12x4992_S1x128_3_4864).toLoadRect X,
    View.readAt (Elt Ideal) v (Rect.unit (s := S12x4992) ![4, 4864] S1x128.size inb_S12x4992_S1x128_4_4864).toLoadRect X,
    View.readAt (Elt Ideal) v (Rect.unit (s := S12x4992) ![5, 4864] S1x128.size inb_S12x4992_S1x128_5_4864).toLoadRect X,
    View.readAt (Elt Ideal) v (Rect.unit (s := S12x4992) ![6, 4864] S1x128.size inb_S12x4992_S1x128_6_4864).toLoadRect X,
    View.readAt (Elt Ideal) v (Rect.unit (s := S12x4992) ![7, 4864] S1x128.size inb_S12x4992_S1x128_7_4864).toLoadRect X,
    View.readAt (Elt Ideal) v (Rect.unit (s := S12x4992) ![8, 4864] S1x128.size inb_S12x4992_S1x128_8_4864).toLoadRect X,
    View.readAt (Elt Ideal) v (Rect.unit (s := S12x4992) ![9, 4864] S1x128.size inb_S12x4992_S1x128_9_4864).toLoadRect X,
    View.readAt (Elt Ideal) v (Rect.unit (s := S12x4992) ![10, 4864] S1x128.size inb_S12x4992_S1x128_10_4864).toLoadRect X,
    View.readAt (Elt Ideal) v (Rect.unit (s := S12x4992) ![11, 4864] S1x128.size inb_S12x4992_S1x128_11_4864).toLoadRect X]

theorem rowsT_apply {CT : Vec Ideal S12x4992 .f32} {v : View sig .tc .vmem S12x4992 .f32} {X : v.ty.Contents (Elt Ideal)} (hX : v.read (Elt Ideal) X = CT)
    (m : Fin 12) (n : Fin 128) (j : Fin 4992) (hj : j.val = 4864 + n.val) : rowsT v X m (ix2 0 n) = CT (ix2 m j) := by
  fin_cases m
  · exact row_load hX 0 _ rfl n j hj
  · exact row_load hX 1 _ rfl n j hj
  · exact row_load hX 2 _ rfl n j hj
  · exact row_load hX 3 _ rfl n j hj
  · exact row_load hX 4 _ rfl n j hj
  · exact row_load hX 5 _ rfl n j hj
  · exact row_load hX 6 _ rfl n j hj
  · exact row_load hX 7 _ rfl n j hj
  · exact row_load hX 8 _ rfl n j hj
  · exact row_load hX 9 _ rfl n j hj
  · exact row_load hX 10 _ rfl n j hj
  · exact row_load hX 11 _ rfl n j hj

/-- The accumulated products of eleven codebooks for the last 128 columns. -/
abbrev accT (a : Fin 12 → Vec Ideal S1x128 .f32) (u : Fin 12 → Vec Ideal S1x256x256 .bf16) : FVec Ideal S256x128 .f32 :=
  (k0_pay83 k0_pay67 (k0_pay82 k0_pay67 (k0_pay80 k0_pay67 (k0_pay78 k0_pay67 k0_pay75 (k0_pay76 (a 0)) (k0_pay77 (u 0))
        (constant S256x128 .f32 0x00000000#32) (a 1) (u 1) (a 2) (u 2))
      (k0_pay79 k0_pay67 (a 3)) (u 3) (a 4) (u 4) (a 5) (u 5)) (k0_pay81 k0_pay67 (a 6)) (u 6) (a 7) (u 7) (a 8) (u 8)) (a 9) (u 9) (a 10) (u 10))

/-- The three stores of the last 128 columns, last first. -/
def tailPieces (a : Fin 12 → Vec Ideal S1x128 .f32) (u : Fin 12 → Vec Ideal S1x256x256 .bf16) : List (View.Piece (Elt Ideal) S768x4992 .bf16) :=
  [⟨Rect.unit (s := S768x4992) ![512, 4864] S256x128.size inb_S768x4992_S256x128_512_4864, k0_pay91 (F := Ideal) (accT a u) (k0_pay84 k0_pay67 (a 11)) (u 11)⟩,
    ⟨Rect.unit (s := S768x4992) ![256, 4864] S256x128.size inb_S768x4992_S256x128_256_4864, k0_pay90 (F := Ideal) (accT a u) (k0_pay84 k0_pay67 (a 11)) (u 11)⟩,
    ⟨Rect.unit (s := S768x4992) ![0, 4864] S256x128.size inb_S768x4992_S256x128_0_4864, k0_pay87 (F := Ideal) (accT a u) (k0_pay84 k0_pay67 (a 11)) (u 11)⟩]

/-- They are blocks of the stacked limbs. -/
theorem tail_pieces {CB : Vec Ideal S12x256x256 .bf16} {CT : Vec Ideal S12x4992 .f32} (a : Fin 12 → Vec Ideal S1x128 .f32) (u : Fin 12 → Vec Ideal S1x256x256 .bf16)
    (ha : ∀ m (n : Fin 128) (j : Fin 4992), j.val = 4864 + n.val → a m (ix2 0 n) = CT (ix2 m j))
    (hu : ∀ m r k, u m (ix3 0 r k) = CB (ix3 m r k)) : View.PiecesOf (xtOf CB CT) (tailPieces a u) := by
  have e (r : Fin 256) (n : Fin 128) : k0_pay85 (F := Ideal) (accT a u) (k0_pay84 k0_pay67 (a 11)) (u 11) (ix2 r n)
      = dec CB CT r ⟨4864 + n.val, by omega⟩ :=
    (acc128 a u r n).trans (acc_dec a u r n _ (ha · n _ rfl) (hu · r ·))
  refine ⟨fun x => ?_, fun x => ?_, fun x => ?_, trivial⟩
  · refine block_piece (W := 128) (inb := inb_S768x4992_S256x128_512_4864) _ 512 4864 rfl (by omega) (by omega) (fun r n => ?_) x
    refine (limbs128 _ _ _ r n).2.2.trans ?_
    rw [e]; exact (xtOf_2 _ _ _ rfl).symm
  · refine block_piece (W := 128) (inb := inb_S768x4992_S256x128_256_4864) _ 256 4864 rfl (by omega) (by omega) (fun r n => ?_) x
    refine (limbs128 _ _ _ r n).2.1.trans ?_
    rw [e]; exact (xtOf_1 _ _ _ rfl).symm
  · refine block_piece (W := 128) (inb := inb_S768x4992_S256x128_0_4864) _ 0 4864 rfl (by omega) (by omega) (fun r n => ?_) x
    refine (limbs128 _ _ _ r n).1.trans ?_
    rw [e]; exact (xtOf_0 _ _ _ (Nat.zero_add _)).symm

/-! ## The trips together -/

theorem piecesOf_append {G : Vec Ideal S768x4992 .bf16} : ∀ {L L' : List (View.Piece (Elt Ideal) S768x4992 .bf16)},
    View.PiecesOf G L → View.PiecesOf G L' → View.PiecesOf G (L ++ L')
  | [], _, _, h' => h'
  | _ :: _, _, h, h' => ⟨h.1, piecesOf_append h.2 h'⟩

theorem trips_eq : k0_t1_loop.trips = 19 := by decide

/-- A 256 × 256 block holds the entries of its rows and columns. -/
theorem mem_block {off : Fin 2 → ℕ} {W : ℕ} {inb} (b o : ℕ) (h : off = ![b, o]) (y : S768x4992.Idx) (h0 : b ≤ (y 0).val ∧ (y 0).val < b + 256)
    (h1 : o ≤ (y 1).val ∧ (y 1).val < o + W) : y ∈ (Rect.unit (s := S768x4992) off ![256, W] inb).set := by
  subst h
  refine Rect.mem_set_unit.mpr fun a => ?_
  fin_cases a
  exacts [h0, h1]

section Trips
variable (𝒱 : Variants) (c : Dev nD) (bd : Option 𝒱.V) (i : grid0.Coords) (arg1 : Memref sig .tc .vmem S200x256 .bf16) (harg1 : arg1.IsWhole) (arg2 : Memref sig .tc .vmem S12x200x256 .bf16) (harg2 : arg2.IsWhole) (arg3 : Memref sig .tc .vmem S12x4992 .i8) (harg3 : arg3.IsWhole) (arg4 : Memref sig .tc .vmem S39x128 .i8) (harg4 : arg4.IsWhole) (arg5 : Memref sig .tc .vmem S2x128 .f32) (harg5 : arg5.IsWhole) (arg6 : Memref sig .tc .vmem S256x4992 .f32) (harg6 : arg6.IsWhole) (arg7 : Memref sig .tc .vmem S12x256x256 .f32) (harg7 : arg7.IsWhole) (arg8 : Memref sig .tc .vmem S12x256x256 .bf16) (harg8 : arg8.IsWhole) (arg9 : Memref sig .tc .vmem S768x4992 .bf16) (harg9 : arg9.IsWhole) (arg10 : Memref sig .tc .vmem S1x4992 .f32) (harg10 : arg10.IsWhole) (arg11 : Memref sig .tc .vmem S12x4992 .f32) (harg11 : arg11.IsWhole) (k0_h1 : k0_cond1 i = 1#1) (v215 : FVec Ideal S39x128 .f32) (v355 : FVec Ideal S1x128 .f32) (X_arg8 : BufTy.Contents (Elt Ideal) arg8.view.ty) (X_arg11 : BufTy.Contents (Elt Ideal) arg11.view.ty)

/-- Trip `k` stores every row of its 256 columns. -/
theorem trip_cover (k : Fin k0_t1_loop.trips) (y : S768x4992.Idx) (h1 : 256 * k.val ≤ (y 1).val ∧ (y 1).val < 256 * k.val + 256) :
    ∃ p ∈ tripL_k0_t1 (F := Ideal) 𝒱 c bd i arg1 harg1 arg2 harg2 arg3 harg3 arg4 harg4 arg5 harg5 arg6 harg6 arg7 harg7 arg8 harg8 arg9 harg9 arg10 harg10 arg11 harg11 k0_h1 v215 v355 X_arg8 X_arg11 k, y ∈ p.1.set := by
  have h : (y 0).val < 768 := (y 0).isLt
  unfold tripL_k0_t1 trip_k0_t1
  rcases (by omega : (y 0).val < 256 ∨ (256 ≤ (y 0).val ∧ (y 0).val < 512) ∨ 512 ≤ (y 0).val) with h0 | h0 | h0
  · exact ⟨_, .tail _ (.tail _ (.head _)), mem_block (inb := k0_off13_inb i k k0_h1) 0 (256 * k.val) (k0_off13_eq k) y (by omega) h1⟩
  · exact ⟨_, .tail _ (.head _), mem_block (inb := k0_off14_inb i k k0_h1) 256 (256 * k.val) (k0_off14_eq k) y (by omega) h1⟩
  · exact ⟨_, .head _, mem_block (inb := k0_off15_inb i k k0_h1) 512 (256 * k.val) (k0_off15_eq k) y (by omega) h1⟩

/-- The trips before `n` store blocks of the stacked limbs. -/
theorem pb_pieces {CB : Vec Ideal S12x256x256 .bf16} {CT : Vec Ideal S12x4992 .f32}
    (hCB : arg8.view.read (Elt Ideal) X_arg8 = CB) (hCT : arg11.view.read (Elt Ideal) X_arg11 = CT) :
    ∀ n, n ≤ k0_t1_loop.trips → View.PiecesOf (xtOf CB CT) (pb_k0_t1 (F := Ideal) 𝒱 c bd i arg1 harg1 arg2 harg2 arg3 harg3 arg4 harg4 arg5 harg5 arg6 harg6 arg7 harg7 arg8 harg8 arg9 harg9 arg10 harg10 arg11 harg11 k0_h1 v215 v355 X_arg8 X_arg11 n)
  | 0, _ => trivial
  | n + 1, hn => by
    have e := pb_k0_t1_succ (F := Ideal) 𝒱 c bd i arg1 harg1 arg2 harg2 arg3 harg3 arg4 harg4 arg5 harg5 arg6 harg6 arg7 harg7 arg8 harg8 arg9 harg9 arg10 harg10 arg11 harg11 k0_h1 v215 v355 X_arg8 X_arg11 ⟨n, hn⟩
    rw [show (⟨n, hn⟩ : Fin k0_t1_loop.trips).val + 1 = n + 1 from rfl] at e
    rw [e]
    exact piecesOf_append (trip_pieces 𝒱 c bd i arg1 harg1 arg2 harg2 arg3 harg3 arg4 harg4 arg5 harg5 arg6 harg6 arg7 harg7 arg8 harg8 arg9 harg9 arg10 harg10 arg11 harg11 k0_h1 v215 v355 X_arg8 X_arg11 ⟨n, hn⟩ CB CT hCB hCT) (pb_pieces hCB hCT n (Nat.le_of_succ_le hn))

/-- The trips before `n` store every row of the first `256 n` columns. -/
theorem pb_cover (y : S768x4992.Idx) : ∀ n, n ≤ k0_t1_loop.trips → (y 1).val < 256 * n →
    ∃ p ∈ pb_k0_t1 (F := Ideal) 𝒱 c bd i arg1 harg1 arg2 harg2 arg3 harg3 arg4 harg4 arg5 harg5 arg6 harg6 arg7 harg7 arg8 harg8 arg9 harg9 arg10 harg10 arg11 harg11 k0_h1 v215 v355 X_arg8 X_arg11 n, y ∈ p.1.set
  | 0, _, h => absurd h (by omega)
  | n + 1, hn, h => by
    have e := pb_k0_t1_succ (F := Ideal) 𝒱 c bd i arg1 harg1 arg2 harg2 arg3 harg3 arg4 harg4 arg5 harg5 arg6 harg6 arg7 harg7 arg8 harg8 arg9 harg9 arg10 harg10 arg11 harg11 k0_h1 v215 v355 X_arg8 X_arg11 ⟨n, hn⟩
    rw [show (⟨n, hn⟩ : Fin k0_t1_loop.trips).val + 1 = n + 1 from rfl] at e
    rw [e]
    by_cases h1 : (y 1).val < 256 * n
    · obtain ⟨p, hp, hy⟩ := pb_cover y n (Nat.le_of_succ_le hn) h1
      exact ⟨p, List.mem_append_right _ hp, hy⟩
    · obtain ⟨p, hp, hy⟩ := trip_cover 𝒱 c bd i arg1 harg1 arg2 harg2 arg3 harg3 arg4 harg4 arg5 harg5 arg6 harg6 arg7 harg7 arg8 harg8 arg9 harg9 arg10 harg10 arg11 harg11 k0_h1 v215 v355 X_arg8 X_arg11 ⟨n, hn⟩ y ⟨by show 256 * n ≤ _; omega, by show _ < 256 * n + 256; omega⟩
      exact ⟨p, List.mem_append_left _ hp, hy⟩

/-- After the loop and the last 128 columns the buffer holds the stacked limbs. -/
theorem loop_stored {CB : Vec Ideal S12x256x256 .bf16} {CT : Vec Ideal S12x4992 .f32}
    (hCB : arg8.view.read (Elt Ideal) X_arg8 = CB) (hCT : arg11.view.read (Elt Ideal) X_arg11 = CT)
    (w : View sig .tc .vmem S768x4992 .bf16) (f : w.ty.Contents (Elt Ideal)) :
    w.read (Elt Ideal) (w.writes (Elt Ideal) f (tailPieces (rowsT arg11.view X_arg11) (slabs arg8.view X_arg8)
      ++ pb_k0_t1 (F := Ideal) 𝒱 c bd i arg1 harg1 arg2 harg2 arg3 harg3 arg4 harg4 arg5 harg5 arg6 harg6 arg7 harg7 arg8 harg8 arg9 harg9 arg10 harg10 arg11 harg11 k0_h1 v215 v355 X_arg8 X_arg11 k0_t1_loop.trips)) = xtOf CB CT := by
  funext y
  refine View.read_writes_apply_of_pieces _ _ (xtOf CB CT) _ (View.PiecesOf.mem (piecesOf_append
    (tail_pieces _ _ (rowsT_apply hCT) (slabs_apply hCB)) (pb_pieces 𝒱 c bd i arg1 harg1 arg2 harg2 arg3 harg3 arg4 harg4 arg5 harg5 arg6 harg6 arg7 harg7 arg8 harg8 arg9 harg9 arg10 harg10 arg11 harg11 k0_h1 v215 v355 X_arg8 X_arg11 hCB hCT _ le_rfl))) y ?_
  have h : (y 0).val < 768 := (y 0).isLt
  have h' : (y 1).val < 4992 := (y 1).isLt
  by_cases h1 : (y 1).val < 4864
  · obtain ⟨p, hp, hy⟩ := pb_cover 𝒱 c bd i arg1 harg1 arg2 harg2 arg3 harg3 arg4 harg4 arg5 harg5 arg6 harg6 arg7 harg7 arg8 harg8 arg9 harg9 arg10 harg10 arg11 harg11 k0_h1 v215 v355 X_arg8 X_arg11 y k0_t1_loop.trips le_rfl (by rw [trips_eq]; omega)
    exact ⟨p, List.mem_append_right _ hp, hy⟩
  · rcases (by omega : (y 0).val < 256 ∨ (256 ≤ (y 0).val ∧ (y 0).val < 512) ∨ 512 ≤ (y 0).val) with h0 | h0 | h0
    · exact ⟨_, List.mem_append_left _ (.tail _ (.tail _ (.head _))), mem_block (W := 128) (inb := inb_S768x4992_S256x128_0_4864) 0 4864 rfl y (by omega) (by omega)⟩
    · exact ⟨_, List.mem_append_left _ (.tail _ (.head _)), mem_block (W := 128) (inb := inb_S768x4992_S256x128_256_4864) 256 4864 rfl y (by omega) (by omega)⟩
    · exact ⟨_, List.mem_append_left _ (.head _), mem_block (W := 128) (inb := inb_S768x4992_S256x128_512_4864) 512 4864 rfl y (by omega) (by omega)⟩

end Trips

end Cert.KernelIdeal.Val
end
-- ==== Proof.Norms.lean ====
/-
  The norms of the database vectors: thirty-nine rows of a lookup laid out in one row.
-/
module

public import proofs.«01_k».proof.Proof.Blocks
public import Idealize.ShloMosaic.Lib.Pipeline.ReadBack
public import Idealize.ShloMosaic.Lib.Pipeline.ValueKit

@[expose] public section

set_option maxHeartbeats 4000000
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000

/-- The thirty-nine stores of the looked-up norms, last first. -/
def normPieces (a : Vec Ideal S39x128 .i8) (b c : Vec Ideal S1x128 .f32) : List (View.Piece (Elt Ideal) S1x4992 .f32) :=
  [ ⟨Rect.unit (s := S1x4992) ![0, 4864] S1x128.size inb_S1x4992_S1x128_0_4864, k0_pay66 (k0_pay23 a b c)⟩,
    ⟨Rect.unit (s := S1x4992) ![0, 4736] S1x128.size inb_S1x4992_S1x128_0_4736, k0_pay65 (k0_pay23 a b c)⟩,
    ⟨Rect.unit (s := S1x4992) ![0, 4608] S1x128.size inb_S1x4992_S1x128_0_4608, k0_pay64 (k0_pay23 a b c)⟩,
    ⟨Rect.unit (s := S1x4992) ![0, 4480] S1x128.size inb_S1x4992_S1x128_0_4480, k0_pay63 (k0_pay23 a b c)⟩,
    ⟨Rect.unit (s := S1x4992) ![0, 4352] S1x128.size inb_S1x4992_S1x128_0_4352, k0_pay62 (k0_pay23 a b c)⟩,
    ⟨Rect.unit (s := S1x4992) ![0, 4224] S1x128.size inb_S1x4992_S1x128_0_4224, k0_pay61 (k0_pay23 a b c)⟩,
    ⟨Rect.unit (s := S1x4992) ![0, 4096] S1x128.size inb_S1x4992_S1x128_0_4096, k0_pay60 (k0_pay23 a b c)⟩,
    ⟨Rect.unit (s := S1x4992) ![0, 3968] S1x128.size inb_S1x4992_S1x128_0_3968, k0_pay59 (k0_pay23 a b c)⟩,
    ⟨Rect.unit (s := S1x4992) ![0, 3840] S1x128.size inb_S1x4992_S1x128_0_3840, k0_pay58 (k0_pay23 a b c)⟩,
    ⟨Rect.unit (s := S1x4992) ![0, 3712] S1x128.size inb_S1x4992_S1x128_0_3712, k0_pay57 (k0_pay23 a b c)⟩,
    ⟨Rect.unit (s := S1x4992) ![0, 3584] S1x128.size inb_S1x4992_S1x128_0_3584, k0_pay56 (k0_pay23 a b c)⟩,
    ⟨Rect.unit (s := S1x4992) ![0, 3456] S1x128.size inb_S1x4992_S1x128_0_3456, k0_pay55 (k0_pay23 a b c)⟩,
    ⟨Rect.unit (s := S1x4992) ![0, 3328] S1x128.size inb_S1x4992_S1x128_0_3328, k0_pay54 (k0_pay53 (k0_pay23 a b c))⟩,
    ⟨Rect.unit (s := S1x4992) ![0, 3200] S1x128.size inb_S1x4992_S1x128_0_3200, k0_pay52 (k0_pay23 a b c)⟩,
    ⟨Rect.unit (s := S1x4992) ![0, 3072] S1x128.size inb_S1x4992_S1x128_0_3072, k0_pay51 (k0_pay23 a b c)⟩,
    ⟨Rect.unit (s := S1x4992) ![0, 2944] S1x128.size inb_S1x4992_S1x128_0_2944, k0_pay50 (k0_pay23 a b c)⟩,
    ⟨Rect.unit (s := S1x4992) ![0, 2816] S1x128.size inb_S1x4992_S1x128_0_2816, k0_pay49 (k0_pay23 a b c)⟩,
    ⟨Rect.unit (s := S1x4992) ![0, 2688] S1x128.size inb_S1x4992_S1x128_0_2688, k0_pay48 (k0_pay23 a b c)⟩,
    ⟨Rect.unit (s := S1x4992) ![0, 2560] S1x128.size inb_S1x4992_S1x128_0_2560, k0_pay47 (k0_pay23 a b c)⟩,
    ⟨Rect.unit (s := S1x4992) ![0, 2432] S1x128.size inb_S1x4992_S1x128_0_2432, k0_pay46 (k0_pay23 a b c)⟩,
    ⟨Rect.unit (s := S1x4992) ![0, 2304] S1x128.size inb_S1x4992_S1x128_0_2304, k0_pay45 (k0_pay23 a b c)⟩,
    ⟨Rect.unit (s := S1x4992) ![0, 2176] S1x128.size inb_S1x4992_S1x128_0_2176, k0_pay44 (k0_pay43 (k0_pay23 a b c))⟩,
    ⟨Rect.unit (s := S1x4992) ![0, 2048] S1x128.size inb_S1x4992_S1x128_0_2048, k0_pay42 (k0_pay23 a b c)⟩,
    ⟨Rect.unit (s := S1x4992) ![0, 1920] S1x128.size inb_S1x4992_S1x128_0_1920, k0_pay41 (k0_pay23 a b c)⟩,
    ⟨Rect.unit (s := S1x4992) ![0, 1792] S1x128.size inb_S1x4992_S1x128_0_1792, k0_pay40 (k0_pay23 a b c)⟩,
    ⟨Rect.unit (s := S1x4992) ![0, 1664] S1x128.size inb_S1x4992_S1x128_0_1664, k0_pay39 (k0_pay23 a b c)⟩,
    ⟨Rect.unit (s := S1x4992) ![0, 1536] S1x128.size inb_S1x4992_S1x128_0_1536, k0_pay38 (k0_pay23 a b c)⟩,
    ⟨Rect.unit (s := S1x4992) ![0, 1408] S1x128.size inb_S1x4992_S1x128_0_1408, k0_pay37 (k0_pay23 a b c)⟩,
    ⟨Rect.unit (s := S1x4992) ![0, 1280] S1x128.size inb_S1x4992_S1x128_0_1280, k0_pay36 (k0_pay23 a b c)⟩,
    ⟨Rect.unit (s := S1x4992) ![0, 1152] S1x128.size inb_S1x4992_S1x128_0_1152, k0_pay35 (k0_pay34 (k0_pay23 a b c))⟩,
    ⟨Rect.unit (s := S1x4992) ![0, 1024] S1x128.size inb_S1x4992_S1x128_0_1024, k0_pay33 (k0_pay23 a b c)⟩,
    ⟨Rect.unit (s := S1x4992) ![0, 896] S1x128.size inb_S1x4992_S1x128_0_896, k0_pay32 (k0_pay23 a b c)⟩,
    ⟨Rect.unit (s := S1x4992) ![0, 768] S1x128.size inb_S1x4992_S1x128_0_768, k0_pay31 (k0_pay23 a b c)⟩,
    ⟨Rect.unit (s := S1x4992) ![0, 640] S1x128.size inb_S1x4992_S1x128_0_640, k0_pay30 (k0_pay23 a b c)⟩,
    ⟨Rect.unit (s := S1x4992) ![0, 512] S1x128.size inb_S1x4992_S1x128_0_512, k0_pay29 (k0_pay23 a b c)⟩,
    ⟨Rect.unit (s := S1x4992) ![0, 384] S1x128.size inb_S1x4992_S1x128_0_384, k0_pay28 (k0_pay23 a b c)⟩,
    ⟨Rect.unit (s := S1x4992) ![0, 256] S1x128.size inb_S1x4992_S1x128_0_256, k0_pay27 (k0_pay23 a b c)⟩,
    ⟨Rect.unit (s := S1x4992) ![0, 128] S1x128.size inb_S1x4992_S1x128_0_128, k0_pay26 (k0_pay23 a b c)⟩,
    ⟨Rect.unit (s := S1x4992) ![0, 0] S1x128.size inb_S1x4992_S1x128_0_0, k0_pay25 (k0_pay24 a b c)⟩ ]

/-- Each is its row of the lookup. -/
theorem norm_pieces (x3 : Vec Ideal S39x128 .i8) (x4 : Vec Ideal S2x128 .f32) :
    View.PiecesOf (xnOf x3 x4) (normPieces x3 (tabRow x4 0) (tabRow x4 1)) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ <;> intro x <;>
    refine norm_piece x3 x4 (inb := by decide) _ _ rfl (by decide) (by decide) (fun n => ?_) x <;>
    pointwise [k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66] <;> rfl

/-- One of the two rows of the table loaded. -/
theorem tab_load {x4 : Vec Ideal S2x128 .f32} {v : View sig .tc .vmem S2x128 .f32} {X : v.ty.Contents (Elt Ideal)} (hX : v.read (Elt Ideal) X = x4)
    (m : Fin 2) {off : Fin 2 → ℕ} {inb} (h : off = ![m.val, 0]) :
    v.readAt (Elt Ideal) (Rect.unit (s := S2x128) off S1x128.size inb).toLoadRect X = tabRow x4 m := by
  subst hX h
  funext x
  refine View.ld_unit_apply_of (Val := Elt Ideal) (S := S2x128) _ _ _ _ x (ix2 m (x 1)) fun a => ?_
  fin_cases a
  · exact (congrArg (fun q : Fin 1 => m.val + q.val) (Subsingleton.elim (α := Fin 1) (x 0) 0)).symm
  · exact (Nat.zero_add _).symm

/-- They leave the looked-up norms. -/
theorem norm_stored {x3 : Vec Ideal S39x128 .i8} {x4 : Vec Ideal S2x128 .f32} {a : Vec Ideal S39x128 .i8} {b c : Vec Ideal S1x128 .f32}
    (ha : a = x3) (hb : b = tabRow x4 0) (hc : c = tabRow x4 1) (w : View sig .tc .vmem S1x4992 .f32) (f : w.ty.Contents (Elt Ideal)) :
    w.read (Elt Ideal) (w.writes (Elt Ideal) f (normPieces a b c)) = xnOf x3 x4 := by
  subst ha hb hc
  funext y
  exact View.read_writes_apply_of_pieces _ _ (xnOf a x4) _ (View.PiecesOf.mem (norm_pieces a x4)) y
    (View.cover_of_tiled (s := S1x4992) _ S1x128.size (by rfl) y)

end Cert.KernelIdeal.Val
end
-- ==== Proof.RunA.lean ====
/-
  The first point of the grid: the body fills the scratch and leaves its two output blocks.
-/
module

public import proofs.«01_k».proof.Proof.Loop
public import proofs.«01_k».proof.Proof.Norms
public import Idealize.ShloMosaic.Lib.Pipeline.ReadBack
public import Idealize.ShloMosaic.Lib.Pipeline.ValueKit

@[expose] public section

set_option maxHeartbeats 4000000
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000

theorem ct_eq {x x2 : Vec Ideal S12x4992 .i8} (h : x = x2) : k0_pay22 (F := Ideal) x = ctOf x2 := by
  subst h
  funext j
  rw [eq_ix2 (n0 := 12) (n1 := 4992) j]
  pointwise [k0_pay22, ctOf]

theorem dist_congr {x x0 : Vec Ideal S200x256 .bf16} {y XT : Vec Ideal S768x4992 .bf16} {z XN : Vec Ideal S1x4992 .f32}
    (hx : x = x0) (hy : y = XT) (hz : z = XN) : k0_pay2 (F := Ideal) (k0_pay92 x) (k0_pay93 x) y z = distOf x0 XT XN := by
  subst hx hy hz; rfl

/-- At the first point, whatever the scratch holds, the body fills it with the padded codebooks, the stacked limbs of
    the decoded vectors, their norms and the codes, and leaves the block of distances and the block of lookup tables. -/
theorem runA (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S12x4992 .i8) (harg3 : arg3.IsWhole) (arg4 : Memref sig .tc .vmem S39x128 .i8) (harg4 : arg4.IsWhole) (arg5 : Memref sig .tc .vmem S2x128 .f32) (harg5 : arg5.IsWhole) (arg6 : Memref sig .tc .vmem S256x4992 .f32) (harg6 : arg6.IsWhole) (arg7 : Memref sig .tc .vmem S12x256x256 .f32) (harg7 : arg7.IsWhole) (arg8 : Memref sig .tc .vmem S12x256x256 .bf16) (harg8 : arg8.IsWhole) (arg9 : Memref sig .tc .vmem S768x4992 .bf16) (harg9 : arg9.IsWhole) (arg10 : Memref sig .tc .vmem S1x4992 .f32) (harg10 : arg10.IsWhole) (arg11 : Memref sig .tc .vmem S12x4992 .f32) (harg11 : arg11.IsWhole) (hc0 : cond0_0 i)
    (x0 : Vec Ideal S200x256 .bf16) (x1 : Vec Ideal S12x200x256 .bf16) (x2 : Vec Ideal S12x4992 .i8) (x3 : Vec Ideal S39x128 .i8) (x4 : Vec Ideal S2x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (distOf x0 (xtOf (cbOf x1) (ctOf x2)) (xnOf x3 x4)) ∗ owns (c : Thread nD τ) arg7 fullShare (lutOf x0 (cbOf x1)) ∗ owns (c : Thread nD τ) arg8 fullShare (cbOf x1) ∗ owns (c : Thread nD τ) arg9 fullShare (xtOf (cbOf x1) (ctOf x2)) ∗ owns (c : Thread nD τ) arg10 fullShare (xnOf x3 x4) ∗ owns (c : Thread nD τ) arg11 fullShare (ctOf x2)) -∗ K ⟨⟩))
          ⊢ wp frame (wpE (defs₀ (F := Ideal)) Variants.none c none) E (cc0_adc i arg1 harg1 arg2 harg2 arg3 harg3 arg4 harg4 arg5 harg5 arg6 harg6 arg7 harg7 arg8 harg8 arg9 harg9 arg10 harg10 arg11 harg11) K := by
    intro E K
    simp only [cc0_adc_eq_skeleton]; unfold cc0_adc_skel
    simp only [k0_part18_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      sl_unfold_words
      refine (whole_store _ (by decide)).trans ?_
      exact dist_congr (whole_load (harg1.read_unread x0) (by decide))
        (whole_load (loop_stored _ _ _ _ _ _ _ _ _ _ _ _ _ _ _ _ _ _ _ _ _ _ _ _ _ _ _ _ _ _ _ (cb_stored (harg2.read_unread x1) _ _) ((whole_store _ (by decide)).trans (ct_eq (whole_load (harg3.read_unread x2) (by decide)))) _ _) (by decide))
        (whole_load (norm_stored (whole_load (harg4.read_unread x3) (by decide)) (tab_load (harg5.read_unread x4) 0 rfl) (tab_load (harg5.read_unread x4) 1 rfl) _ _) (by decide))
    isplitl [H6]
    · iexists _; isplitr; swap; · iexact H6
      ipureintro
      sl_unfold_words
      rw [whole_load (harg1.read_unread x0) (by decide)]
      exact lut_stored (cb_stored (harg2.read_unread x1) _ _) x0 _ _
    isplitl [HS0]
    · iexists _; isplitr; swap; · iexact HS0
      ipureintro
      sl_unfold_words
      exact (cb_stored (harg2.read_unread x1) _ _)
    isplitl [HS1]
    · iexists _; isplitr; swap; · iexact HS1
      ipureintro
      sl_unfold_words
      exact loop_stored _ _ _ _ _ _ _ _ _ _ _ _ _ _ _ _ _ _ _ _ _ _ _ _ _ _ _ _ _ _ _ (cb_stored (harg2.read_unread x1) _ _) ((whole_store _ (by decide)).trans (ct_eq (whole_load (harg3.read_unread x2) (by decide)))) _ _
    isplitl [HS2]
    · iexists _; isplitr; swap; · iexact HS2
      ipureintro
      sl_unfold_words
      exact (norm_stored (whole_load (harg4.read_unread x3) (by decide)) (tab_load (harg5.read_unread x4) 0 rfl) (tab_load (harg5.read_unread x4) 1 rfl) _ _)
    · iexists _; isplitr; swap; · iexact HS3
      ipureintro
      sl_unfold_words
      exact ((whole_store _ (by decide)).trans (ct_eq (whole_load (harg3.read_unread x2) (by decide))))

end Cert.KernelIdeal.Val
end
-- ==== Proof.RunB.lean ====
/-
  One point of the grid after the first: the body finds the scratch filled and leaves its two output blocks.
-/
module

public import proofs.«01_k».proof.Proof.Blocks
public import Idealize.ShloMosaic.Lib.Pipeline.ReadBack
public import Idealize.ShloMosaic.Lib.Pipeline.ValueKit

@[expose] public section

set_option maxHeartbeats 4000000
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000

/-- At every point but the first, with the scratch holding the padded codebooks `CB`, the stacked limbs `XT`, the
    norms `XN` and the codes `CT`, the body leaves the block of distances and the block of lookup tables, and the
    scratch as it was. -/
theorem runB (c : Dev nD) (i : grid0.Coords) (arg1 : Memref sig .tc .vmem S200x256 .bf16) (harg1 : arg1.IsWhole) (arg2 : Memref sig .tc .vmem S12x200x256 .bf16) (harg2 : arg2.IsWhole) (arg3 : Memref sig .tc .vmem S12x4992 .i8) (harg3 : arg3.IsWhole) (arg4 : Memref sig .tc .vmem S39x128 .i8) (harg4 : arg4.IsWhole) (arg5 : Memref sig .tc .vmem S2x128 .f32) (harg5 : arg5.IsWhole) (arg6 : Memref sig .tc .vmem S256x4992 .f32) (harg6 : arg6.IsWhole) (arg7 : Memref sig .tc .vmem S12x256x256 .f32) (harg7 : arg7.IsWhole) (arg8 : Memref sig .tc .vmem S12x256x256 .bf16) (harg8 : arg8.IsWhole) (arg9 : Memref sig .tc .vmem S768x4992 .bf16) (harg9 : arg9.IsWhole) (arg10 : Memref sig .tc .vmem S1x4992 .f32) (harg10 : arg10.IsWhole) (arg11 : Memref sig .tc .vmem S12x4992 .f32) (harg11 : arg11.IsWhole) (hc0 : ¬cond0_0 i)
    (x0 : Vec Ideal S200x256 .bf16) (x1 : Vec Ideal S12x200x256 .bf16) (x2 : Vec Ideal S12x4992 .i8) (x3 : Vec Ideal S39x128 .i8) (x4 : Vec Ideal S2x128 .f32)
    (CB : Vec Ideal S12x256x256 .bf16) (XT : Vec Ideal S768x4992 .bf16) (XN : Vec Ideal S1x4992 .f32) (CT : Vec Ideal S12x4992 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare CB ∗ owns (c : Thread nD τ) arg9 fullShare XT ∗ owns (c : Thread nD τ) arg10 fullShare XN ∗ owns (c : Thread nD τ) arg11 fullShare CT
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (distOf x0 XT XN) ∗ owns (c : Thread nD τ) arg7 fullShare (lutOf x0 CB) ∗ owns (c : Thread nD τ) arg8 fullShare CB ∗ owns (c : Thread nD τ) arg9 fullShare XT ∗ owns (c : Thread nD τ) arg10 fullShare XN ∗ owns (c : Thread nD τ) arg11 fullShare CT) -∗ K ⟨⟩))
          ⊢ wp frame (wpE (defs₀ (F := Ideal)) Variants.none c none) E (cc0_adc i arg1 harg1 arg2 harg2 arg3 harg3 arg4 harg4 arg5 harg5 arg6 harg6 arg7 harg7 arg8 harg8 arg9 harg9 arg10 harg10 arg11 harg11) K := by
    intro E K
    simp only [cc0_adc_eq_skeleton]; unfold cc0_adc_skel
    simp only [k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      sl_unfold_words
      rw [whole_store _ (by decide), whole_load (harg1.read_unread x0) (by decide), whole_load hfs1 (by decide), whole_load hfs2 (by decide)]
      rfl
    isplitl [H6]
    · iexists _; isplitr; swap; · iexact H6
      ipureintro
      sl_unfold_words
      rw [whole_load (harg1.read_unread x0) (by decide)]
      exact lut_stored hfs0 x0 _ _
    isplitl [HS0]
    · iexists _; isplitr; · ipureintro; exact hfs0
      iexact HS0
    isplitl [HS1]
    · iexists _; isplitr; · ipureintro; exact hfs1
      iexact HS1
    isplitl [HS2]
    · iexists _; isplitr; · ipureintro; exact hfs2
      iexact HS2
    · iexists _; isplitr; · ipureintro; exact hfs3
      iexact HS3

end Cert.KernelIdeal.Val
end
-- ==== Proof.Dats.lean ====
/-
  The run of the whole program: what the scratch holds between grid points, what each point leaves, and the launch.
-/
module

public import proofs.«01_k».proof.Proof.RunA
public import proofs.«01_k».proof.Proof.RunB
public import Idealize.ShloMosaic.Lib.Pipeline.ReadBack
public import Idealize.ShloMosaic.Lib.Pipeline.ValueKit

@[expose] public section

set_option maxHeartbeats 4000000
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first grid point. -/
abbrev t0 : Fin cfg0.N := ⟨0, by rw [show cfg0.N = 24 from N_0]; decide⟩

/-! ## What the scratch holds after the first point -/

/-- The padded codebooks. -/
def CB (c : Dev nD) : Vec Ideal S12x256x256 .bf16 := cbOf (iblk m c 1 t0)
/-- The codes as floats. -/
def CT (c : Dev nD) : Vec Ideal S12x4992 .f32 := ctOf (iblk m c 2 t0)
/-- The stacked limbs of the decoded vectors. -/
def XT (c : Dev nD) : Vec Ideal S768x4992 .bf16 := xtOf (CB m c) (CT m c)
/-- The norms of the database vectors. -/
def XN (c : Dev nD) : Vec Ideal S1x4992 .f32 := xnOf (iblk m c 3 t0) (iblk m c 4 t0)

/-- The scratch at its contents, and the generator register. -/
def filled (c : Dev nD) : sProp 𝕄 :=
  iprop(iprop(owns (c : Thread nD τ) scM0_0 fullShare (CB m c) ∗ owns (c : Thread nD τ) scM0_1 fullShare (XT m c)
    ∗ owns (c : Thread nD τ) scM0_2 fullShare (XN m c) ∗ owns (c : Thread nD τ) scM0_3 fullShare (CT m c)) ∗ (∃ r, prngReg c r))

/-- The filled scratch is scratch at some contents. -/
theorem filled_PhiA (c : Dev nD) : filled m c ⊢ (Pipeline.ΦA spec0 c : sProp 𝕄) := by
  rw [PhiA0_eq]
  unfold filled
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The pipeline's proof data -/

/-- After the body at point `t`: the inputs' blocks in place, the block of distances and the block of lookup tables.
    Before the first point the scratch is at anything, afterwards filled. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => distOf (iblk m c 0 t) (XT m c) (XN m c)
    | ⟨6, _⟩ => lutOf (iblk m c 0 t) (CB m c)
  Φ t := if t.val = 0 then Pipeline.ΦA spec0 c else filled m c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = distOf (iblk m c 0 t) (XT m c) (XN m c) := by dsimp only [dats]
theorem after0_6 (c : Dev nD) (t : Fin cfg0.N) : (dats m 0 c).after 6 t = lutOf (iblk m c 0 t) (CB m c) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- After a point the scratch is filled. -/
theorem Φ_succ (c : Dev nD) (t : Fin cfg0.N) : (dats m 0 c).Φ t.succ = filled m c := by
  dsimp only [dats]
  exact if_neg (Nat.succ_ne_zero t.val)

set_option maxHeartbeats 1600000 in
/-- The body meets it: at the first point it fills the scratch, at a later one it finds it filled. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [Φ_succ,
    show (dats m 0 c).owesAt () t.succ = (dats m 0 c).owesAt () t.castSucc from rfl,
    after0_0, after0_1, after0_2, after0_3, after0_4, after0_5, after0_6]
  have hN : t.val < 24 := lt_of_lt_of_eq t.isLt (show cfg0.N = 24 from N_0)
  by_cases h0 : t.val = 0
  · rw [show (dats m 0 c).Φ t.castSucc = Pipeline.ΦA spec0 c from if_pos h0, PhiA0_eq]
    obtain rfl : t = t0 := Fin.ext h0
    unfold filled XT XN CB CT
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t0) _ _ _ _ _ _ _ _ _ _ _ _ _ _ _ _ _ _ _ _ _ _ ((hcond0_0 t0).mpr rfl) (iblk m c 0 t0) (iblk m c 1 t0) (iblk m c 2 t0) (iblk m c 3 t0) (iblk m c 4 t0)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).Φ t.castSucc = filled m c from if_neg h0]
    unfold filled
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ _ _ _ _ _ _ _ _ (fun h => h0 (by have := (hcond0_0 t).mp h; omega)) (iblk m c 0 t) (iblk m c 1 t) (iblk m c 2 t) (iblk m c 3 t) (iblk m c 4 t) (CB m c) (XT m c) (XN m c) (CT m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 1600000 in
/-- Every fair execution ends with the arrays at what the points left and every semaphore at zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl)
    (hout := fun c => (show (dats m 0 c).Φ (Fin.last cfg0.N) ⊢ _ from filled_PhiA m c)) (hQ' := fun _ h => h)

end Cert.KernelIdeal.Val
end
-- ==== Proof.Equation.lean ====
/-
  The mathematics: one block of the kernel's results, in the reference's terms, over finite inputs.
-/
module

public import proofs.«01_k».proof.Proof.Spec
public import Idealize.ShloMosaic.Lib.Routing.OpsSet

@[expose] public section

set_option maxHeartbeats 400000
set_option maxRecDepth 16384

noncomputable section

namespace Cert.KernelIdeal.Val

open Cert.KernelIdeal.Gen
open Idealize.ShloMosaic

/-! ## Sums -/

/-- A sum whose terms vanish from `p` on is the sum of the first `p`. -/
theorem sum_below {p n : ℕ} (hpn : p ≤ n) (G : Fin p → EReal) (f : Fin n → EReal)
    (hf : ∀ k : Fin n, f k = if h : k.val < p then G ⟨k.val, h⟩ else 0) : ∑ k, f k = ∑ k, G k := by
  obtain ⟨e, rfl⟩ := Nat.exists_eq_add_of_le hpn
  rw [Fin.sum_univ_add, Finset.sum_congr rfl fun k _ => hf (Fin.castAdd e k), Finset.sum_congr rfl fun k _ => hf (Fin.natAdd p k)]
  simp

/-- A sum of reals, read in the extended reals. -/
theorem coe_sum {n : ℕ} (f : Fin n → ℝ) : ((∑ k, f k : ℝ) : EReal) = ∑ k, (f k : EReal) :=
  map_sum (⟨⟨fun x : ℝ => (x : EReal), EReal.coe_zero⟩, EReal.coe_add⟩ : ℝ →+ EReal) f Finset.univ

/-- The f32 pattern of minus two. -/
theorem ofBits_neg_two : Ideal.ofBits .f32 0xC0000000#32 = ((-2 : ℝ) : EReal) := by
  simp [Ideal.ofBits, Ideal.ieee, -EReal.coe_mul, -EReal.coe_neg]; norm_num

/-- The f32 pattern of two. -/
theorem ofBits_two : Ideal.ofBits .f32 0x40000000#32 = ((2 : ℝ) : EReal) := by
  simp [Ideal.ofBits, Ideal.ieee, -EReal.coe_mul]; norm_num

/-- Products with the decoded vector, the factor `-2` inside, are minus twice the sum of the products with its parts. -/
theorem cross (Q : Fin 200 → ℝ) (C : Fin 12 → Fin 200 → ℝ) :
    ∑ d, (Q d : EReal) * (((-2 : ℝ) : EReal) * ∑ m, (C m d : EReal)) = -(((2 : ℝ) : EReal) * ∑ m, ∑ d, (Q d : EReal) * (C m d : EReal)) := by
  simp only [← coe_sum, ← EReal.coe_mul, ← EReal.coe_neg]
  congr 1
  rw [Finset.sum_comm, Finset.mul_sum, ← Finset.sum_neg_distrib]
  refine Finset.sum_congr rfl fun d _ => ?_
  rw [Finset.mul_sum, Finset.mul_sum, Finset.mul_sum, ← Finset.sum_neg_distrib]
  exact Finset.sum_congr rfl fun m _ => by ring

/-! ## Codes -/

/-- The kernel's numbers are distinct. -/
theorem num_inj {a b : ℕ} (ha : a < 256) (hb : b < 256) : num a = num b ↔ a = b := by
  refine ⟨fun h => ?_, fun h => h ▸ rfl⟩
  have h' : (((BitVec.ofNat 32 a).toInt : ℝ) : EReal) = (((BitVec.ofNat 32 b).toInt : ℝ) : EReal) := h
  rw [StableHlo.Predicate.toInt_ofNat_small _ (by omega), StableHlo.Predicate.toInt_ofNat_small _ (by omega)] at h'
  exact_mod_cast h'

/-- A byte widened is the word of its value. -/
theorem setWidth_byte (b : BitVec 8) : BitVec.setWidth 32 b = BitVec.ofNat 32 b.toNat := by
  apply BitVec.eq_of_toNat_eq
  simp only [BitVec.toNat_ofNat, BitVec.toNat_setWidth]

/-- The entry of a codebook that a code names. -/
abbrev pick (b : BitVec 8) : Fin 256 := ⟨b.toNat, b.isLt⟩

/-- The one-hot product picks the codebook's entry. -/
theorem term_eq (CB : Vec Ideal S12x256x256 .bf16) (x2 : Vec Ideal S12x4992 .i8) (m : Fin 12) (r : Fin 256) (n : Fin 4992) :
    term CB (ctOf x2) m r n = CB (ix3 m r (pick (x2 (ix2 m n)))) := by
  have h : ∀ k : Fin 256, CB (ix3 m r k) * (if ctOf x2 (ix2 m n) = num k.val then (1 : EReal) else 0)
      = if pick (x2 (ix2 m n)) = k then CB (ix3 m r k) else (0 : EReal) := by
    intro k
    have e : ctOf x2 (ix2 m n) = num (x2 (ix2 m n)).toNat :=
      congrArg (FloatOps.sitofp (F := Ideal) .f32) (setWidth_byte (x2 (ix2 m n)))
    have e' : (ctOf x2 (ix2 m n) = num k.val) ↔ pick (x2 (ix2 m n)) = k := by
      rw [e, num_inj (x2 (ix2 m n)).isLt k.isLt, Fin.ext_iff]
    by_cases hk : pick (x2 (ix2 m n)) = k
    · rw [if_pos hk, if_pos (e'.mpr hk)]; exact mul_one (_ : EReal)
    · rw [if_neg hk, if_neg (fun h => hk (e'.mp h))]; exact mul_zero (_ : EReal)
  unfold term
  rw [Finset.sum_congr rfl fun k _ => h k]
  simp

/-! ## One block of distances and of lookup tables -/

section Block
variable (x0 : Vec Ideal S200x256 .bf16) (x1 : Vec Ideal S12x200x256 .bf16) (x2 : Vec Ideal S12x4992 .i8)
  (Q : Fin 200 → Fin 256 → ℝ) (C : Fin 12 → Fin 200 → Fin 256 → ℝ)
  (hQ : ∀ d r, x0 (ix2 d r) = ((Q d r : ℝ) : EReal)) (hC : ∀ m d k, x1 (ix3 m d k) = ((C m d k : ℝ) : EReal))

/-- A padded query at an index. -/
theorem pay92_apply (r k : Fin 256) : k0_pay92 (F := Ideal) x0 (ix2 r k) = if h : k.val < 200 then x0 (ix2 ⟨k.val, h⟩ r) else (0 : EReal) := by
  pointwise [k0_pay92]

/-- A query's squared norm. -/
theorem pay93_apply (r : Fin 256) : k0_pay93 (F := Ideal) x0 (ix2 r 0) = ∑ d : Fin 200, (x0 (ix2 d r) * x0 (ix2 d r) : EReal) := by
  have h : k0_pay93 (F := Ideal) x0 (ix2 r 0) = ∑ k : Fin 256, (k0_pay92 (F := Ideal) x0 (ix2 r k) * k0_pay92 (F := Ideal) x0 (ix2 r k) : EReal) := by
    pointwise [k0_pay93, k0_pay92]
  rw [h]
  refine sum_below (by decide) (fun d => x0 (ix2 d r) * x0 (ix2 d r)) _ fun k => ?_
  rw [pay92_apply]
  split
  · rfl
  · exact mul_zero (0 : EReal)

/-- An entry of a lookup table is an inner product over the 200 coordinates. -/
theorem lut_point (r : Fin 256) (m : Fin 12) (k : Fin 256) :
    lutOf x0 (cbOf x1) (ix3 m r k) = ∑ d : Fin 200, (x0 (ix2 d r) * x1 (ix3 m d k) : EReal) := by
  refine sum_below (by decide) (fun d => x0 (ix2 d r) * x1 (ix3 m d k)) _ fun j => ?_
  show k0_pay92 (F := Ideal) x0 (ix2 r j) * cbOf x1 (ix3 m j k) = _
  rw [pay92_apply]
  by_cases h : j.val < 200
  · rw [dif_pos h, dif_pos h]
    refine congrArg (fun z : EReal => (x0 (ix2 ⟨j.val, h⟩ r) : EReal) * z) ?_
    exact dif_pos h
  · rw [dif_neg h, dif_neg h]; exact zero_mul (_ : EReal)

include hC in
/-- A padded codebook's entries are real. -/
theorem cbOf_real (m : Fin 12) (r k : Fin 256) : cbOf x1 (ix3 m r k) = (((if h : r.val < 200 then C m ⟨r.val, h⟩ k else 0) : ℝ) : EReal) := by
  show (if h : r.val < 200 then x1 (ix3 m ⟨r.val, h⟩ k) else (0 : EReal)) = _
  by_cases h : r.val < 200
  · rw [dif_pos h, dif_pos h, hC]
  · rw [dif_neg h, dif_neg h]; rfl

include hC in
/-- A decoded vector's coordinate is `-2` times the sum of the codebook entries its codes name. -/
theorem dec_real (r : Fin 256) (n : Fin 4992) :
    dec (cbOf x1) (ctOf x2) r n = ((-2 : ℝ) : EReal) * ∑ m : Fin 12, (((if h : r.val < 200 then C m ⟨r.val, h⟩ (pick (x2 (ix2 m n))) else 0) : ℝ) : EReal) := by
  unfold dec
  rw [ofBits_neg_two]
  refine congrArg (fun z : EReal => ((-2 : ℝ) : EReal) * z) (Finset.sum_congr rfl fun m _ => ?_)
  rw [term_eq, cbOf_real x1 C hC]

include hC in
/-- Its rounding error is zero: over the reals a value less itself. -/
theorem dec_sub_self (r : Fin 256) (n : Fin 4992) : dec (cbOf x1) (ctOf x2) r n - dec (cbOf x1) (ctOf x2) r n = 0 := by
  rw [dec_real x1 x2 C hC, ← coe_sum, ← EReal.coe_mul, ← EReal.coe_sub, sub_self, EReal.coe_zero]

/-- Query `r`, stacked three times, at row `k` of the stack. -/
def stacked (r : Fin 256) (k : Fin 768) : EReal :=
  if h : k.val < 256 then k0_pay92 (F := Ideal) x0 (ix2 r ⟨k.val, h⟩)
  else if h : k.val - 256 < 256 then k0_pay92 (F := Ideal) x0 (ix2 r ⟨k.val - 256, h⟩)
  else k0_pay92 (F := Ideal) x0 (ix2 r ⟨k.val - 256 - 256, by have := k.isLt; omega⟩)

/-- A distance as the kernel sums it. -/
theorem distOf_apply (XT : Vec Ideal S768x4992 .bf16) (XN : Vec Ideal S1x4992 .f32) (r : Fin 256) (n : Fin 4992) :
    distOf x0 XT XN (ix2 r n)
      = (k0_pay93 (F := Ideal) x0 (ix2 r 0) + ∑ k : Fin 768, stacked x0 r k * XT (ix2 k n) + XN (ix2 0 n) : EReal) := by
  unfold stacked
  pointwise [distOf, k0_pay2]

include hQ hC in
/-- A distance of a block: the query's squared norm, less twice its products with the codebook entries, plus the norm. -/
theorem dist_point (XN : Vec Ideal S1x4992 .f32) (r : Fin 256) (n : Fin 4992) :
    distOf x0 (xtOf (cbOf x1) (ctOf x2)) XN (ix2 r n)
      = ((∑ d : Fin 200, x0 (ix2 d r) * x0 (ix2 d r))
        - Ideal.ofBits .f32 0x40000000#32 * (∑ m : Fin 12, ∑ d : Fin 200, x0 (ix2 d r) * x1 (ix3 m d (pick (x2 (ix2 m n))))) + XN (ix2 0 n) : EReal) := by
  have hs : ∑ k : Fin 768, stacked x0 r k * xtOf (cbOf x1) (ctOf x2) (ix2 k n)
      = ∑ d : Fin 200, (Q d r : EReal) * (((-2 : ℝ) : EReal) * ∑ m : Fin 12, ((C m d (pick (x2 (ix2 m n))) : ℝ) : EReal)) := by
    refine sum_below (by decide) (fun d : Fin 200 => (Q d r : EReal) * (((-2 : ℝ) : EReal) * ∑ m : Fin 12, ((C m d (pick (x2 (ix2 m n))) : ℝ) : EReal))) _ fun k => ?_
    have hk := k.isLt
    by_cases h : k.val < 256
    · have ex : xtOf (cbOf x1) (ctOf x2) (ix2 k n) = dec (cbOf x1) (ctOf x2) ⟨k.val, h⟩ n := dif_pos h
      have es : stacked x0 r k = k0_pay92 (F := Ideal) x0 (ix2 r ⟨k.val, h⟩) := dif_pos h
      rw [ex, es, pay92_apply, dec_real x1 x2 C hC]
      by_cases h2 : k.val < 200
      · simp only [dif_pos h2, hQ]
      · rw [dif_neg h2, dif_neg h2]; exact zero_mul (_ : EReal)
    · rw [dif_neg (by omega)]
      have ex : xtOf (cbOf x1) (ctOf x2) (ix2 k n) = (0 : EReal) := by
        refine (dif_neg h).trans ?_
        by_cases h3 : k.val - 256 < 256
        · exact (dif_pos h3).trans (dec_sub_self x1 x2 C hC _ _)
        · refine (dif_neg h3).trans ?_
          show dec _ _ _ n - dec _ _ _ n - (dec _ _ _ n - dec _ _ _ n) = (0 : EReal)
          rw [dec_sub_self x1 x2 C hC]
          exact sub_zero (0 : EReal)
      rw [ex]; exact mul_zero (_ : EReal)
  rw [distOf_apply, pay93_apply, hs, cross, ofBits_two, ← sub_eq_add_neg]
  simp only [hQ, hC]

end Block

/-! ## The norms -/

/-- The lane a byte names in a half of the table is its value modulo 128. -/
theorem lane_byte : ∀ k : Fin 256,
    (Scalar.select (IntOp.cmpi .slt (IntOp.andi (BitVec.setWidth 32 (BitVec.ofFin k : BitVec 8)) 127#32) 0#32)
      (IntOp.addi (IntOp.andi (BitVec.setWidth 32 (BitVec.ofFin k : BitVec 8)) 127#32) 128#32)
      (IntOp.andi (BitVec.setWidth 32 (BitVec.ofFin k : BitVec 8)) 127#32)).toNat % 128 = k.val % 128 := by decide +kernel

/-- The first half of the table is for the bytes below 128. -/
theorem half_byte : ∀ k : Fin 256,
    IntOp.cmpi .slt (BitVec.setWidth 32 (BitVec.ofFin k : BitVec 8)) 128#32 = 1 ↔ k.val < 128 := by decide +kernel

/-- The two halves of the table, chosen by the code's top bit, are the table. -/
theorem norm_point (x3 : Vec Ideal S39x128 .i8) (x4 : Vec Ideal S2x128 .f32) (tab : Fin 256 → EReal)
    (hx4 : ∀ (a : Fin 2) (b : Fin 128), x4 (ix2 a b) = tab ⟨a.val * 128 + b.val, by have := a.isLt; have := b.isLt; omega⟩) (n : Fin 4992) :
    xnOf x3 x4 (ix2 0 n)
      = tab (pick (x3 (ix2 ⟨n.val / 128, by have := n.isLt; omega⟩ ⟨n.val % 128, Nat.mod_lt _ (by decide)⟩))) := by
  have h23 : ∀ (y z : Vec Ideal S1x128 .f32) (r : Fin 39) (l : Fin 128),
      k0_pay23 (F := Ideal) x3 y z (ix2 r l)
        = if (x3 (ix2 r l)).toNat < 128 then y (ix2 0 ⟨(x3 (ix2 r l)).toNat % 128, Nat.mod_lt _ (by decide)⟩)
          else z (ix2 0 ⟨(x3 (ix2 r l)).toNat % 128, Nat.mod_lt _ (by decide)⟩) := by
    intro y z r l
    pointwise [k0_pay23]
    have e : (⟨_, Nat.mod_lt _ (by decide)⟩ : Fin 128) = ⟨(x3 (ix2 r l)).toNat % 128, Nat.mod_lt _ (by decide)⟩ := Fin.ext (lane_byte (x3 (ix2 r l)).toFin)
    rw [Scalar.select, if_congr (half_byte (x3 (ix2 r l)).toFin) (congrArg (fun k => y (ix2 0 k)) e) (congrArg (fun k => z (ix2 0 k)) e)]
    rfl
  show k0_pay23 (F := Ideal) x3 (tabRow x4 0) (tabRow x4 1)
    (ix2 ⟨n.val / 128, by have := n.isLt; omega⟩ ⟨n.val % 128, Nat.mod_lt _ (by decide)⟩) = _
  rw [h23]
  have hb := (x3 (ix2 ⟨n.val / 128, by have := n.isLt; omega⟩ ⟨n.val % 128, Nat.mod_lt _ (by decide)⟩)).isLt
  split
  · refine (hx4 0 _).trans (congrArg tab (Fin.ext ?_))
    show 0 * 128 + _ % 128 = BitVec.toNat _
    omega
  · refine (hx4 1 _).trans (congrArg tab (Fin.ext ?_))
    show 1 * 128 + _ % 128 = BitVec.toNat _
    omega

end Cert.KernelIdeal.Val
end
-- ==== Proof.RefValue.lean ====
/-
  What the reference's two results hold, index by index, over the extended reals.
-/
module

public import proofs.«01_k».proof.Proof.Gen.ReferenceIdeal.Run
public import Idealize.ShloMosaic.Lib.Pointwise
public import Idealize.ShloMosaic.Lib.Routing.OpsSet

@[expose] public section

set_option maxHeartbeats 400000
set_option maxRecDepth 16384

noncomputable section

namespace Cert.ReferenceIdeal.Value

open Cert.ReferenceIdeal Cert.ReferenceIdeal.Gen Idealize.ShloMosaic

/-- The column of the flattened table that code `(n, m)` names: `256 · m` plus the code, as the reference computes it. -/
def flatIdx (codes : IVec S4992x12 8) : IVec S4992x12x1 32 :=
  broadcastInDim S4992x12x1 ![0, 1] bcast_S4992x12_S4992x12x1_0_1 (select (cmpi .slt (addi (extui 32 codes natLt_8_32) (broadcastInDim S4992x12 ![0, 1] bcast_S1x12_S4992x12_0_1 (muli (broadcastInDim S1x12 ![] bcast_S_S1x12 (constantI S_ 32 256#32)) (broadcastInDim S1x12 ![1] bcast_S12_S1x12_1 (iotaInDim S12 32 0))))) (broadcastInDim S4992x12 ![] bcast_S_S4992x12 (constantI S_ 32 0#32))) (addi (addi (extui 32 codes natLt_8_32) (broadcastInDim S4992x12 ![0, 1] bcast_S1x12_S4992x12_0_1 (muli (broadcastInDim S1x12 ![] bcast_S_S1x12 (constantI S_ 32 256#32)) (broadcastInDim S1x12 ![1] bcast_S12_S1x12_1 (iotaInDim S12 32 0))))) (broadcastInDim S4992x12 ![] bcast_S_S4992x12 (constantI S_ 32 3072#32))) (addi (extui 32 codes natLt_8_32) (broadcastInDim S4992x12 ![0, 1] bcast_S1x12_S4992x12_0_1 (muli (broadcastInDim S1x12 ![] bcast_S_S1x12 (constantI S_ 32 256#32)) (broadcastInDim S1x12 ![1] bcast_S12_S1x12_1 (iotaInDim S12 32 0))))))

/-- The entry of the norm table that norm code `n` names, as the reference computes it. -/
def normIdx (nc : IVec S4992 8) : IVec S4992x1 32 :=
  broadcastInDim S4992x1 ![0] bcast_S4992_S4992x1_0 (select (cmpi .slt (extui 32 nc natLt_8_32) (broadcastInDim S4992 ![] bcast_S_S4992 (constantI S_ 32 0#32))) (addi (extui 32 nc natLt_8_32) (broadcastInDim S4992 ![] bcast_S_S4992 (constantI S_ 32 256#32))) (extui 32 nc natLt_8_32))

/-- The reference's lookup tables. -/
def lutTerm (q : FVec Ideal S6144x200 .bf16) (cb : FVec Ideal S12x256x200 .bf16) : FVec Ideal S6144x12x256 .f32 :=
  Host.dotGeneral dot_S6144x200_S12x256x200_S6144x12x256_1_2_0_01_n_n none q cb

/-- The reference's looked-up products, one for every query, database vector and codebook. -/
def picked (q : FVec Ideal S6144x200 .bf16) (cb : FVec Ideal S12x256x200 .bf16) (codes : IVec S4992x12 8) : FVec Ideal S6144x4992x12 .f32 :=
  Host.gather gather_S6144x3072_S4992x12x1_S6144x4992x12_0_1_n_n_1_2_61441 (shapeCast _ (lutTerm q cb) shapeCasts_S6144x12x256_S6144x3072) (flatIdx codes)

/-- The norms the reference looks up. -/
def normTerm (nc : IVec S4992 8) (tab : FVec Ideal S256 .f32) : FVec Ideal S4992 .f32 :=
  Host.gather gather_S256_S4992x1_S4992_n_0_n_n_0_1_1 tab (normIdx nc)

/-- The reference's distances. -/
def distTerm (q : FVec Ideal S6144x200 .bf16) (cb : FVec Ideal S12x256x200 .bf16) (codes : IVec S4992x12 8) (nc : IVec S4992 8)
    (tab : FVec Ideal S256 .f32) : FVec Ideal S6144x4992 .f32 :=
  addf (subf (broadcastInDim S6144x4992 ![0, 1] bcast_S6144x1_S6144x4992_0_1 (broadcastInDim S6144x1 ![0] bcast_S6144_S6144x1_0 (Host.reduceAdd (mulf (extf .f32 q bitsLt_bf16_f32) (extf .f32 q bitsLt_bf16_f32)) (constant S_ .f32 0x00000000#32) reducesTo_S6144x200_S6144_d1 h_S_))) (mulf (broadcastInDim S6144x4992 ![] bcast_S_S6144x4992 (constant S_ .f32 0x40000000#32)) (Host.reduceAdd (picked q cb codes) (constant S_ .f32 0x00000000#32) reducesTo_S6144x4992x12_S6144x4992_d2 h_S_))) (broadcastInDim S6144x4992 ![0, 1] bcast_S1x4992_S6144x4992_0_1 (broadcastInDim S1x4992 ![1] bcast_S4992_S1x4992_1 (normTerm nc tab)))

/-- The gather of columns read at an index: the operand's row `b`, at the column the start indices name. -/
theorem gather_cols {α : Type} (x : S6144x3072.Idx → α) (idx : IVec S4992x12x1 32) (b : Fin 6144) (n : Fin 4992) (m : Fin 12) (k : Fin 3072)
    (hk : idx (ix3 n m 0) = BitVec.ofNat 32 k.val) :
    Host.gather gather_S6144x3072_S4992x12x1_S6144x4992x12_0_1_n_n_1_2_61441 x idx (ix3 b n m) = x (ix2 b k) := by
  unfold Host.gather
  congr 1
  funext a
  refine Fin.ext ?_
  have h01 : a = 0 ∨ a = 1 := by
    match a with
    | ⟨0, _⟩ => exact Or.inl rfl
    | ⟨1, _⟩ => exact Or.inr rfl
  show GatherDims.start _ _ idx a + GatherDims.batchCoord _ _ a + GatherDims.offCoord _ _ a = _
  rcases h01 with rfl | rfl
  · rw [GatherDims.batchCoord_eq_zero _ _ _ List.not_mem_nil]
    unfold GatherDims.start
    rw [dif_neg (by decide)]
    unfold GatherDims.offCoord
    rw [dif_pos (by decide)]
    simp only [Nat.zero_add]
    rfl
  · rw [GatherDims.batchCoord_eq_zero _ _ _ List.not_mem_nil, GatherDims.offCoord_eq_zero _ _ _ (by decide)]
    simp only [Nat.add_zero]
    unfold GatherDims.start
    rw [dif_pos (by decide)]
    have hsi : GatherDims.siIdx gather_S6144x3072_S4992x12x1_S6144x4992x12_0_1_n_n_1_2_61441 (ix3 b n m)
        ⟨List.idxOf (1 : Fin 2) [1], by decide⟩ = ix3 n m 0 := by
      funext b'; refine Fin.ext ?_
      match b' with
      | ⟨0, _⟩ => rfl
      | ⟨1, _⟩ => rfl
      | ⟨2, _⟩ => rfl
    have hk' := k.isLt
    show min (idx (GatherDims.siIdx gather_S6144x3072_S4992x12x1_S6144x4992x12_0_1_n_n_1_2_61441 (ix3 b n m)
        ⟨List.idxOf (1 : Fin 2) [1], _⟩)).toInt.toNat 3071 = k.val
    rw [hsi, hk, StableHlo.Predicate.toInt_ofNat_small _ (by omega)]
    omega

/-- A small word is not negative, so the wrapped index is not taken. -/
theorem select_nonneg (k : ℕ) (hk : k < 2 ^ 31) (a : BitVec 32) :
    Scalar.select (Scalar.cmpi .slt (BitVec.ofNat 32 k) 0#32) a (BitVec.ofNat 32 k) = BitVec.ofNat 32 k := by
  have h : (BitVec.ofNat 32 k).slt 0#32 = false := by
    rw [BitVec.slt, StableHlo.Predicate.toInt_ofNat_small _ hk]
    simp
  simp [Scalar.select, Scalar.cmpi, IntOp.cmpi, h]

/-- A code byte plus `256 · m` names column `256 · m + code`. -/
theorem flatIdx_apply (codes : IVec S4992x12 8) (n : Fin 4992) (m : Fin 12) :
    flatIdx codes (ix3 n m 0) = BitVec.ofNat 32 (m.val * 256 + (codes (ix2 n m)).toNat) := by
  have h : flatIdx codes (ix3 n m 0) = Scalar.select (Scalar.cmpi .slt (BitVec.setWidth 32 (codes (ix2 n m)) + 256#32 * BitVec.ofNat 32 m.val) 0#32)
      (BitVec.setWidth 32 (codes (ix2 n m)) + 256#32 * BitVec.ofNat 32 m.val + 3072#32) (BitVec.setWidth 32 (codes (ix2 n m)) + 256#32 * BitVec.ofNat 32 m.val) := by
    pointwise [flatIdx]
    rfl
  have hc := (codes (ix2 n m)).isLt
  have hm := m.isLt
  have hw : BitVec.setWidth 32 (codes (ix2 n m)) + 256#32 * BitVec.ofNat 32 m.val = BitVec.ofNat 32 (m.val * 256 + (codes (ix2 n m)).toNat) := by
    apply BitVec.eq_of_toNat_eq
    simp only [BitVec.toNat_add, BitVec.toNat_mul, BitVec.toNat_ofNat, BitVec.toNat_setWidth]
    omega
  rw [h, hw, select_nonneg _ (by omega)]

/-- A norm code names the entry of its value. -/
theorem normIdx_apply (nc : IVec S4992 8) (n : Fin 4992) : normIdx nc (ix2 n 0) = BitVec.ofNat 32 (nc (ix1 n)).toNat := by
  have h : normIdx nc (ix2 n 0) = Scalar.select (Scalar.cmpi .slt (BitVec.setWidth 32 (nc (ix1 n))) 0#32)
      (BitVec.setWidth 32 (nc (ix1 n)) + 256#32) (BitVec.setWidth 32 (nc (ix1 n))) := by
    pointwise [normIdx]
    rfl
  have hc := (nc (ix1 n)).isLt
  have hw : BitVec.setWidth 32 (nc (ix1 n)) = BitVec.ofNat 32 (nc (ix1 n)).toNat := by
    apply BitVec.eq_of_toNat_eq
    simp only [BitVec.toNat_ofNat, BitVec.toNat_setWidth]
  rw [h, hw, select_nonneg _ (by omega)]

/-- A lookup table's entry is an inner product. -/
theorem lutTerm_apply (q : FVec Ideal S6144x200 .bf16) (cb : FVec Ideal S12x256x200 .bf16) (b : Fin 6144) (m : Fin 12) (k : Fin 256) :
    lutTerm q cb (ix3 b m k) = ∑ d : Fin 200, q (ix2 b d) * cb (ix3 m k d) := by
  pointwise [lutTerm]

/-- Codes select from the lookup tables. -/
theorem picked_apply (q : FVec Ideal S6144x200 .bf16) (cb : FVec Ideal S12x256x200 .bf16) (codes : IVec S4992x12 8) (b : Fin 6144) (n : Fin 4992) (m : Fin 12) :
    picked q cb codes (ix3 b n m) = ∑ d : Fin 200, q (ix2 b d) * cb (ix3 m ⟨(codes (ix2 n m)).toNat, (codes (ix2 n m)).isLt⟩ d) := by
  have hc := (codes (ix2 n m)).isLt
  have hm := m.isLt
  rw [picked, gather_cols _ _ b n m ⟨m.val * 256 + (codes (ix2 n m)).toNat, by omega⟩ (flatIdx_apply codes n m), ← lutTerm_apply]
  pointwise []
  have e : (m.val * 256 + (codes (ix2 n m)).toNat) % 256 = (codes (ix2 n m)).toNat := by omega
  exact congrArg (fun k : Fin 256 => lutTerm q cb (ix3 b m k)) (Fin.ext e)

/-- Norm codes select from the norm table. -/
theorem normTerm_apply (nc : IVec S4992 8) (tab : FVec Ideal S256 .f32) (n : Fin 4992) :
    normTerm nc tab (ix1 n) = tab (ix1 ⟨(nc (ix1 n)).toNat, (nc (ix1 n)).isLt⟩) :=
  Routing.gather_take1 _ rfl rfl rfl rfl tab _ n ⟨(nc (ix1 n)).toNat, (nc (ix1 n)).isLt⟩ (normIdx_apply nc n) (by decide)

/-- A distance: squared norm of the query, less twice the looked-up products, plus the looked-up norm. -/
theorem distTerm_apply (q : FVec Ideal S6144x200 .bf16) (cb : FVec Ideal S12x256x200 .bf16) (codes : IVec S4992x12 8) (nc : IVec S4992 8)
    (tab : FVec Ideal S256 .f32) (b : Fin 6144) (n : Fin 4992) :
    distTerm q cb codes nc tab (ix2 b n)
      = (∑ d : Fin 200, q (ix2 b d) * q (ix2 b d)) - Ideal.ofBits .f32 0x40000000#32 * (∑ m : Fin 12, picked q cb codes (ix3 b n m)) + normTerm nc tab (ix1 n) := by
  pointwise [distTerm]

end Cert.ReferenceIdeal.Value

end
-- ==== Proof.Final.lean ====
/-
  The kernel's result arrays after the run, as the reference's terms of the launch arguments, over finite inputs.
-/
module

public import proofs.«01_k».proof.Proof.Dats
public import proofs.«01_k».proof.Proof.Equation
public import proofs.«01_k».proof.Proof.RefValue
public import Idealize.ShloMosaic.Lib.Claim
public import Idealize.ShloMosaic.Lib.StableHlo.Run

@[expose] public section

set_option maxHeartbeats 400000
set_option maxRecDepth 16384

noncomputable section

namespace Cert.KernelIdeal.Val

open Cert.KernelIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! ## The arguments on device `c` -/

/-- The queries. -/
abbrev aQ (c : Dev nD) : FVec Ideal S6144x200 .bf16 := m ((c : Thread nD τ).loc main_arg0)
/-- The codebooks. -/
abbrev aB (c : Dev nD) : FVec Ideal S12x256x200 .bf16 := m ((c : Thread nD τ).loc main_arg1)
/-- The codes. -/
abbrev aC (c : Dev nD) : IVec S4992x12 8 := m ((c : Thread nD τ).loc main_arg2)
/-- The norm codes. -/
abbrev aN (c : Dev nD) : IVec S4992 8 := m ((c : Thread nD τ).loc main_arg3)
/-- The norm table. -/
abbrev aT (c : Dev nD) : FVec Ideal S256 .f32 := m ((c : Thread nD τ).loc main_arg4)

/-- Where each window's block sits, at every point. -/
theorem idx : ∀ t : Fin cfg0.N, win0_0.index t = ![0, t.val] ∧ win0_1.index t = ![0, 0, 0] ∧ win0_2.index t = ![0, 0]
    ∧ win0_3.index t = ![0, 0] ∧ win0_4.index t = ![0, 0] ∧ win0_5.index t = ![t.val, 0] ∧ win0_6.index t = ![0, t.val, 0] :=
  (by decide +kernel : ∀ t : Fin grid0.N, _)

/-- Row `r` of the block of queries at point `t`, among all queries. -/
abbrev row (t : Fin cfg0.N) (r : Fin 256) : Fin 6144 :=
  ⟨t.val * 256 + r.val, by have h := lt_of_lt_of_eq t.isLt (show cfg0.N = 24 from N_0); have := r.isLt; omega⟩

/-! ## What the host prepares -/

theorem V_v0 (c : Dev nD) : V m c main_v0 = transpose S200x6144 [1, 0] (aQ m c) transposes_S6144x200_S200x6144_1_0 := by
  show StableHlo.after hostOps0 _ _ = _
  after_results_simp <;> rfl

theorem V_v1 (c : Dev nD) : V m c main_v1 = transpose S12x200x256 [0, 2, 1] (aB m c) transposes_S12x256x200_S12x200x256_0_2_1 := by
  show StableHlo.after hostOps0 _ _ = _
  after_results_simp <;> rfl

theorem V_v2 (c : Dev nD) : V m c main_v2 = transpose S12x4992 [1, 0] (aC m c) transposes_S4992x12_S12x4992_1_0 := by
  show StableHlo.after hostOps0 _ _ = _
  after_results_simp <;> rfl

theorem V_v3 (c : Dev nD) : V m c main_v3 = shapeCast S39x128 (aN m c) shapeCasts_S4992_S39x128 := by
  show StableHlo.after hostOps0 _ _ = _
  after_results_simp <;> rfl

theorem V_v4 (c : Dev nD) : V m c main_v4 = shapeCast S2x128 (aT m c) shapeCasts_S256_S2x128 := by
  show StableHlo.after hostOps0 _ _ = _
  after_results_simp <;> rfl

/-! ## The input blocks -/

/-- A block of queries holds 256 rows of the queries, transposed. -/
theorem x0_apply (c : Dev nD) (t : Fin cfg0.N) (d : Fin 200) (r : Fin 256) : iblk m c 0 t (ix2 d r) = aQ m c (ix2 (row t r) d) := by
  have e : iblk m c 0 t (ix2 d r) = V m c main_v0 (ix2 d (row t r)) := by blk_ext [iblk, idx t]
  rw [e, V_v0]; pointwise []

/-- The codebooks, their last two axes exchanged. -/
theorem x1_apply (c : Dev nD) (b : Fin 12) (d : Fin 200) (k : Fin 256) : iblk m c 1 t0 (ix3 b d k) = aB m c (ix3 b k d) := by
  have e : iblk m c 1 t0 (ix3 b d k) = V m c main_v1 (ix3 b d k) := by blk_ext [iblk, idx t0]
  rw [e, V_v1]; pointwise []

/-- The codes, transposed. -/
theorem x2_apply (c : Dev nD) (b : Fin 12) (n : Fin 4992) : iblk m c 2 t0 (ix2 b n) = aC m c (ix2 n b) := by
  have e : iblk m c 2 t0 (ix2 b n) = V m c main_v2 (ix2 b n) := by blk_ext [iblk, idx t0]
  rw [e, V_v2]; pointwise []

/-- The norm codes in rows of 128. -/
theorem x3_apply (c : Dev nD) (a : Fin 39) (b : Fin 128) : iblk m c 3 t0 (ix2 a b)
    = aN m c (ix1 ⟨a.val * 128 + b.val, by have := a.isLt; have := b.isLt; omega⟩) := by
  have e : iblk m c 3 t0 (ix2 a b) = V m c main_v3 (ix2 a b) := by blk_ext [iblk, idx t0]
  rw [e, V_v3]; pointwise []

/-- The norm table in two rows of 128. -/
theorem x4_apply (c : Dev nD) (a : Fin 2) (b : Fin 128) : iblk m c 4 t0 (ix2 a b)
    = aT m c (ix1 ⟨a.val * 128 + b.val, by have := a.isLt; have := b.isLt; omega⟩) := by
  have e : iblk m c 4 t0 (ix2 a b) = V m c main_v4 (ix2 a b) := by blk_ext [iblk, idx t0]
  rw [e, V_v4]; pointwise []

/-! ## The result arrays -/

/-- The norms the scratch holds are the reference's. -/
theorem XN_apply (c : Dev nD) (n : Fin 4992) : XN m c (ix2 0 n) = Cert.ReferenceIdeal.Value.normTerm (aN m c) (aT m c) (ix1 n) := by
  rw [Cert.ReferenceIdeal.Value.normTerm_apply]
  refine (norm_point (iblk m c 3 t0) (iblk m c 4 t0) (fun k => aT m c (ix1 k)) (x4_apply m c) n).trans ?_
  have e : iblk m c 3 t0 (ix2 ⟨n.val / 128, by have := n.isLt; omega⟩ ⟨n.val % 128, Nat.mod_lt _ (by decide)⟩) = aN m c (ix1 n) := by
    rw [x3_apply]
    refine congrArg (fun k : Fin 4992 => aN m c (ix1 k)) (Fin.ext ?_)
    show n.val / 128 * 128 + n.val % 128 = n.val
    omega
  exact congrArg (fun b : BitVec 8 => aT m c (ix1 (pick b))) e

/-- A block of lookup tables is the reference's, at the block's rows. -/
theorem lut_block (c : Dev nD) (t : Fin cfg0.N) (a : Fin 12) (r k : Fin 256) :
    lutOf (iblk m c 0 t) (CB m c) (ix3 a r k) = Cert.ReferenceIdeal.Value.lutTerm (aQ m c) (aB m c) (ix3 (row t r) a k) := by
  unfold CB
  rw [lut_point, Cert.ReferenceIdeal.Value.lutTerm_apply]
  exact Finset.sum_congr rfl fun d _ => by rw [x0_apply, x1_apply]

/-- A block of distances is the reference's, at the block's rows, for real queries and codebooks. -/
theorem dist_block (c : Dev nD) (hq : ∀ i, ∃ x : ℝ, aQ m c i = (x : EReal)) (hb : ∀ i, ∃ x : ℝ, aB m c i = (x : EReal))
    (t : Fin cfg0.N) (r : Fin 256) (n : Fin 4992) :
    distOf (iblk m c 0 t) (XT m c) (XN m c) (ix2 r n)
      = Cert.ReferenceIdeal.Value.distTerm (aQ m c) (aB m c) (aC m c) (aN m c) (aT m c) (ix2 (row t r) n) := by
  unfold XT CB CT
  rw [dist_point (iblk m c 0 t) (iblk m c 1 t0) (iblk m c 2 t0) (fun d r => (hq (ix2 (row t r) d)).choose) (fun b d k => (hb (ix3 b k d)).choose)
    (fun d r => (x0_apply m c t d r).trans (hq _).choose_spec) (fun b d k => (x1_apply m c b d k).trans (hb _).choose_spec),
    XN_apply, Cert.ReferenceIdeal.Value.distTerm_apply]
  have eq : ∀ d, iblk m c 0 t (ix2 d r) = aQ m c (ix2 (row t r) d) := fun d => x0_apply m c t d r
  have eb : ∀ b d, iblk m c 1 t0 (ix3 b d (pick (iblk m c 2 t0 (ix2 b n)))) = aB m c (ix3 b (pick (aC m c (ix2 n b))) d) := fun b d => by
    rw [x2_apply, x1_apply]
  simp only [eq, eb, Cert.ReferenceIdeal.Value.picked_apply]

/-- The array of lookup tables after the run: the reference's lookup tables with the first two axes exchanged. -/
theorem final_lut (c : Dev nD) : (dats m 0 c).arrAt 6 (cfgs 0).N
    = (fun j => Cert.ReferenceIdeal.Value.lutTerm (aQ m c) (aB m c) (ix3 (j 1) (j 0) (j 2)) : FVec Ideal S12x6144x256 .f32) := by
  refine (dats m 0 c).arrAt_eq_of_covers 6 _ (by decide +kernel) fun t _ y => ?_
  blk_simp
  rw [after0_6]
  have e : (win0_6.blk t).view.emb y = ix3 (y 0) (row t (y 1)) (y 2) := by blk_ext [idx t]
  rw [e]
  exact (congrArg (lutOf (iblk m c 0 t) (CB m c)) (eq_ix3 (n0 := 12) (n1 := 256) (n2 := 256) y)).trans (lut_block m c t (y 0) (y 1) (y 2))

/-- The array of distances after the run, for real queries and codebooks: the reference's distances. -/
theorem final_dist (c : Dev nD) (hq : ∀ i, ∃ x : ℝ, aQ m c i = (x : EReal)) (hb : ∀ i, ∃ x : ℝ, aB m c i = (x : EReal)) :
    (dats m 0 c).arrAt 5 (cfgs 0).N
      = Cert.ReferenceIdeal.Value.distTerm (aQ m c) (aB m c) (aC m c) (aN m c) (aT m c) := by
  refine (dats m 0 c).arrAt_eq_of_covers 5 _ (by decide +kernel) fun t _ y => ?_
  blk_simp
  rw [after0_5]
  have e : (win0_5.blk t).view.emb y = ix2 (row t (y 0)) (y 1) := by blk_ext [idx t]
  rw [e]
  exact (congrArg (distOf (iblk m c 0 t) (XT m c) (XN m c)) (eq_ix2 (n0 := 256) (n1 := 4992) y)).trans (dist_block m c hq hb t (y 0) (y 1))

end Cert.KernelIdeal.Val
end
-- ==== Proof.Outcome.lean ====
/-
  The runs of the two programs, with what each claim reads of them.
-/
module

public import proofs.«01_k».proof.Proof.Final
public import proofs.«01_k».proof.Defs

@[expose] public section

set_option maxHeartbeats 400000
set_option maxRecDepth 16384

noncomputable section

namespace Cert.KernelIdeal.Val

open Cert.KernelIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The arguments end unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨h.1, h.2.2⟩)
    (θ_run_and (frame_of m ρ (dats m) (A_eq m) ((θ_run defs _ _).mono (fun _ h => h.1) (run_main m ρ))) (run_main m ρ))

/-- The transposed array of lookup tables, after the host's last operation. -/
theorem tail_v6 (c : Dev nD) : Pipeline.afterTail₀ cfgs (dats m) 0 (V0 m) [hostOps1] c main_v6
    = Cert.ReferenceIdeal.Value.lutTerm (aQ m c) (aB m c) := by
  have e : Pipeline.afterTail₀ cfgs (dats m) 0 (V0 m) [hostOps1] c main_v6
      = transpose S6144x12x256 [1, 0, 2] ((dats m 0 c).arrAt 6 (cfgs 0).N) transposes_S12x6144x256_S6144x12x256_1_0_2 := by
    unfold Pipeline.afterTail₀
    show StableHlo.after hostOps1 _ _ = _
    after_results_simp
    exact congrArg (fun z => transpose S6144x12x256 [1, 0, 2] z transposes_S12x6144x256_S6144x12x256_1_0_2)
      (Pipeline.withArrays_arr spec0 (by decide) c (V0 m c) (fun w => (dats m 0 c).arrAt w (cfgs 0).N) 6)
  rw [e, final_lut]
  funext j
  obtain ⟨a, b, k, rfl⟩ : ∃ (a : Fin 6144) (b : Fin 12) (k : Fin 256), j = ix3 a b k := ⟨j 0, j 1, j 2, eq_ix3 (n0 := 6144) (n1 := 12) (n2 := 256) j⟩
  pointwise []

/-- The kernel ends with the reference's terms in its results, for real queries and codebooks. -/
theorem values (hq : ∀ c i, ∃ x : ℝ, aQ m c i = (x : EReal)) (hb : ∀ c i, ∃ x : ℝ, aB m c i = (x : EReal)) :
    θ_run defs (onTc (τ := τ) (main (F := Ideal))) ⟨m, fun _ => 0, ρ⟩ (fun r => ∀ c : Dev nD,
      r.2.mem ((c.tc : Thread nD τ).loc main_v5_0) = Cert.ReferenceIdeal.Value.distTerm (aQ m c) (aB m c) (aC m c) (aN m c) (aT m c)
      ∧ r.2.mem ((c.tc : Thread nD τ).loc main_v6) = Cert.ReferenceIdeal.Value.lutTerm (aQ m c) (aB m c)) :=
  (θ_run defs _ _).mono (fun _ h c => ⟨((h.1 c).1 5).trans (final_dist m c (hq c) (hb c)),
      ((h.1 c).2 main_v6 (Pipeline.mem_restRefs_of main_v6 (by decide) (by decide))).trans (tail_v6 m c)⟩) (run_main m ρ)

end Cert.KernelIdeal.Val

namespace Cert.Pre_finite

open Idealize.ShloMosaic

/-- The predicate's side conditions. -/
theorem facts : Cert.Pre_finite.Facts where
  bitsLt_bf16_f32 := by decide
  bcast_S_S6144x200 := by decide
  bcast_S_S12x256x200 := by decide

/-- An extended real whose absolute value is below infinity is a real. -/
theorem real_of_abs_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

variable [Cert.Pre_finite.Facts]

/-- Where the predicate holds, the queries are real, -/
theorem real_q (q : FVec Ideal S6144x200 .bf16) (cb : FVec Ideal S12x256x200 .bf16) (codes : IVec S4992x12 8) (nc : IVec S4992 8)
    (tab : FVec Ideal S256 .f32) (h : (fn (F := Ideal) q cb codes nc tab).1 = fun _ => 1#1) (i : S6144x200.Idx) : ∃ x : ℝ, q i = (x : EReal) :=
  real_of_abs_lt _ (congrFun h i)

/-- and so are the codebooks. -/
theorem real_cb (q : FVec Ideal S6144x200 .bf16) (cb : FVec Ideal S12x256x200 .bf16) (codes : IVec S4992x12 8) (nc : IVec S4992 8)
    (tab : FVec Ideal S256 .f32) (h : (fn (F := Ideal) q cb codes nc tab).2 = fun _ => 1#1) (i : S12x256x200.Idx) : ∃ x : ℝ, cb i = (x : EReal) :=
  real_of_abs_lt _ (congrFun h i)

end Cert.Pre_finite

end
-- ==== Proof.lean ====
/-
  The proof of `Cert.Claim`: the frames of the three programs, and the equality of the kernel's two results with the
  reference's over the extended reals, for finite queries and codebooks.
-/
module

public import proofs.«01_k».proof.Defs
public import proofs.«01_k».proof.Proof.Gen.Kernel
public import proofs.«01_k».proof.Proof.Printed
public import proofs.«01_k».proof.Proof.Outcome
public import Idealize.ShloMosaic.Lib.Quiescent

@[expose] public section

noncomputable section

namespace Cert.Proof

open Idealize.ShloMosaic Idealize.SL.Sem

/-- The reference's run leaves its arguments unchanged and, having no semaphores, ends with every one at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun _ h => ⟨fun c => (h c).2.2, sem_eq_zero_of_no_sems rfl _⟩) (Cert.ReferenceIdeal.Value.run (F := Ideal) m g)

/-- `Cert.algebraic_KernelIdeal_ReferenceIdeal_pre_finite`: from equal arguments, the queries and codebooks finite, both
    programs run and end with equal distances and equal lookup tables. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  have hfin := Cert.Pre_finite.facts
  refine ⟨_, _, (θ_run _ _ _).mono (fun r h c => ⟨(h.1 c).1, (h.1 c).2, h.2.1 c⟩)
    (θ_run_and (Cert.KernelIdeal.Val.values m g (fun c i => Cert.Pre_finite.real_q _ _ _ _ _ (hpre c).1 i)
      (fun c i => Cert.Pre_finite.real_cb _ _ _ _ _ (hpre c).2 i)) (Cert.KernelIdeal.Val.frame m g)), ?_⟩
  refine (θ_run _ _ _).mono (fun r h c => ?_) (Cert.ReferenceIdeal.Value.run (F := Ideal) m' g')
  obtain ⟨hd, hl, ha⟩ := h c
  obtain ⟨e0, e1, e2, e3, e4⟩ := hargs c
  refine ⟨hd.trans ?_, hl.trans ?_, ha⟩
  · rw [e0, e1, e2, e3, e4]; rfl
  · rw [e0, e1]; rfl

/-- Everything the certificate claims. -/
theorem claim : Cert.Claim := ⟨Cert.Kernel.Gen.facts, Cert.KernelIdeal.Gen.facts, Cert.ReferenceIdeal.Gen.facts, Cert.Pre_finite.facts,
  fun m g _ => Cert.Kernel.Val.frame (F := Bits) m g,
  fun m g _ => Cert.KernelIdeal.Val.frame m g,
  fun m g _ => Cert.KernelIdeal.Val.frame m g,
  fun m g _ => frame_reference m g,
  fun m g _ => frame_reference m g,
  trivial,
  algebraic⟩

end Cert.Proof

end
